-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_arg4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S4096x20x768 : Shape := ⟨3, ![4096, 20, 768]⟩
abbrev S4096x20x128 : Shape := ⟨3, ![4096, 20, 128]⟩
abbrev S4096x20 : Shape := ⟨2, ![4096, 20]⟩
abbrev S896x64 : Shape := ⟨2, ![896, 64]⟩
abbrev S64 : Shape := ⟨1, ![64]⟩
abbrev S64x64 : Shape := ⟨2, ![64, 64]⟩
abbrev S2x64 : Shape := ⟨2, ![2, 64]⟩
abbrev S3x64 : Shape := ⟨2, ![3, 64]⟩
abbrev S32x64 : Shape := ⟨2, ![32, 64]⟩
abbrev S7x64 : Shape := ⟨2, ![7, 64]⟩
abbrev S24x64 : Shape := ⟨2, ![24, 64]⟩
abbrev S_ : Shape := ⟨0, ![]⟩

class Facts : Prop where
  bcast_S_S4096x20 : S_.BroadcastsInDim S4096x20 (![] : Fin 0 → Fin S4096x20.rank)

variable [Facts]

def fn_part1 {F : FTy → Type} [FloatOps F] (main_arg6 : IVec S4096x20 32) (main_arg7 : IVec S4096x20 32) (main_v16 : IVec S4096x20 1) (main_c_5 : IVec S_ 32) : IVec S4096x20 1 :=
  let main_v17 : IVec S4096x20 32 := broadcastInDim S4096x20 ![] bcast_S_S4096x20 main_c_5
  let main_v18 : IVec S4096x20 1 := cmpi .sge main_arg6 main_v17
  let main_v19 : IVec S4096x20 1 := andi main_v16 main_v18
  let main_c_6 : IVec S_ 32 := constantI S_ 32 7#32
  let main_v20 : IVec S4096x20 32 := broadcastInDim S4096x20 ![] bcast_S_S4096x20 main_c_6
  let main_v21 : IVec S4096x20 1 := cmpi .slt main_arg6 main_v20
  let main_v22 : IVec S4096x20 1 := andi main_v19 main_v21
  let main_c_7 : IVec S_ 32 := constantI S_ 32 0#32
  let main_v23 : IVec S4096x20 32 := broadcastInDim S4096x20 ![] bcast_S_S4096x20 main_c_7
  let main_v24 : IVec S4096x20 1 := cmpi .sge main_arg7 main_v23
  let main_v25 : IVec S4096x20 1 := andi main_v22 main_v24
  let main_c_8 : IVec S_ 32 := constantI S_ 32 24#32
  let main_v26 : IVec S4096x20 32 := broadcastInDim S4096x20 ![] bcast_S_S4096x20 main_c_8
  let main_v27 : IVec S4096x20 1 := cmpi .slt main_arg7 main_v26
  let main_v28 : IVec S4096x20 1 := andi main_v25 main_v27
  main_v28

def fn {F : FTy → Type} [FloatOps F] (main_arg0 : FVec F S4096x20x768 .f32) (main_arg1 : FVec F S4096x20x128 .f32) (main_arg2 : IVec S4096x20 32) (main_arg3 : IVec S4096x20 32) (main_arg4 : IVec S4096x20 1) (main_arg5 : IVec S4096x20 32) (main_arg6 : IVec S4096x20 32) (main_arg7 : IVec S4096x20 32) (main_arg8 : FVec F S896x64 .f32) (main_arg9 : FVec F S64 .f32) (main_arg10 : FVec F S64x64 .f32) (main_arg11 : FVec F S64 .f32) (main_arg12 : FVec F S2x64 .f32) (main_arg13 : FVec F S3x64 .f32) (main_arg14 : FVec F S32x64 .f32) (main_arg15 : FVec F S7x64 .f32) (main_arg16 : FVec F S24x64 .f32) : IVec S4096x20 1 :=
  let main_c : IVec S_ 32 := constantI S_ 32 0#32
  let main_v0 : IVec S4096x20 32 := broadcastInDim S4096x20 ![] bcast_S_S4096x20 main_c
  let main_v1 : IVec S4096x20 1 := cmpi .sge main_arg2 main_v0
  let main_c_0 : IVec S_ 32 := constantI S_ 32 2#32
  let main_v2 : IVec S4096x20 32 := broadcastInDim S4096x20 ![] bcast_S_S4096x20 main_c_0
  let main_v3 : IVec S4096x20 1 := cmpi .slt main_arg2 main_v2
  let main_v4 : IVec S4096x20 1 := andi main_v1 main_v3
  let main_c_1 : IVec S_ 32 := constantI S_ 32 0#32
  let main_v5 : IVec S4096x20 32 := broadcastInDim S4096x20 ![] bcast_S_S4096x20 main_c_1
  let main_v6 : IVec S4096x20 1 := cmpi .sge main_arg3 main_v5
  let main_v7 : IVec S4096x20 1 := andi main_v4 main_v6
  let main_c_2 : IVec S_ 32 := constantI S_ 32 3#32
  let main_v8 : IVec S4096x20 32 := broadcastInDim S4096x20 ![] bcast_S_S4096x20 main_c_2
  let main_v9 : IVec S4096x20 1 := cmpi .slt main_arg3 main_v8
  let main_v10 : IVec S4096x20 1 := andi main_v7 main_v9
  let main_c_3 : IVec S_ 32 := constantI S_ 32 0#32
  let main_v11 : IVec S4096x20 32 := broadcastInDim S4096x20 ![] bcast_S_S4096x20 main_c_3
  let main_v12 : IVec S4096x20 1 := cmpi .sge main_arg5 main_v11
  let main_v13 : IVec S4096x20 1 := andi main_v10 main_v12
  let main_c_4 : IVec S_ 32 := constantI S_ 32 32#32
  let main_v14 : IVec S4096x20 32 := broadcastInDim S4096x20 ![] bcast_S_S4096x20 main_c_4
  let main_v15 : IVec S4096x20 1 := cmpi .slt main_arg5 main_v14
  let main_v16 : IVec S4096x20 1 := andi main_v13 main_v15
  let main_c_5 : IVec S_ 32 := constantI S_ 32 0#32
  fn_part1 (F := F) main_arg6 main_arg7 main_v16 main_c_5
-- ==== Kernel.lean ====
abbrev S4096x20x768 : Shape := ⟨3, ![4096, 20, 768]⟩
abbrev S4096x20x128 : Shape := ⟨3, ![4096, 20, 128]⟩
abbrev S4096x20 : Shape := ⟨2, ![4096, 20]⟩
abbrev S896x64 : Shape := ⟨2, ![896, 64]⟩
abbrev S64 : Shape := ⟨1, ![64]⟩
abbrev S64x64 : Shape := ⟨2, ![64, 64]⟩
abbrev S2x64 : Shape := ⟨2, ![2, 64]⟩
abbrev S3x64 : Shape := ⟨2, ![3, 64]⟩
abbrev S32x64 : Shape := ⟨2, ![32, 64]⟩
abbrev S7x64 : Shape := ⟨2, ![7, 64]⟩
abbrev S24x64 : Shape := ⟨2, ![24, 64]⟩
abbrev S20x4096x768 : Shape := ⟨3, ![20, 4096, 768]⟩
abbrev S20x4096x128 : Shape := ⟨3, ![20, 4096, 128]⟩
abbrev S_ : Shape := ⟨0, ![]⟩
abbrev S20x4096 : Shape := ⟨2, ![20, 4096]⟩
abbrev S20x1x4096 : Shape := ⟨3, ![20, 1, 4096]⟩
abbrev S1x64 : Shape := ⟨2, ![1, 64]⟩
abbrev S64x896 : Shape := ⟨2, ![64, 896]⟩
abbrev S64x1 : Shape := ⟨2, ![64, 1]⟩
abbrev S20x64x4096 : Shape := ⟨3, ![20, 64, 4096]⟩
abbrev S1x4096x768 : Shape := ⟨3, ![1, 4096, 768]⟩
abbrev S1x4096x128 : Shape := ⟨3, ![1, 4096, 128]⟩
abbrev S1x1x4096 : Shape := ⟨3, ![1, 1, 4096]⟩
abbrev S1x64x4096 : Shape := ⟨3, ![1, 64, 4096]⟩
abbrev S4096x768 : Shape := ⟨2, ![4096, 768]⟩
abbrev S4096x128 : Shape := ⟨2, ![4096, 128]⟩
abbrev S64x768 : Shape := ⟨2, ![64, 768]⟩
abbrev S64x128 : Shape := ⟨2, ![64, 128]⟩
abbrev S64x4096 : Shape := ⟨2, ![64, 4096]⟩
abbrev S1x4096 : Shape := ⟨2, ![1, 4096]⟩
abbrev S2x1 : Shape := ⟨2, ![2, 1]⟩
abbrev S2x4096 : Shape := ⟨2, ![2, 4096]⟩
abbrev S3x1 : Shape := ⟨2, ![3, 1]⟩
abbrev S3x4096 : Shape := ⟨2, ![3, 4096]⟩
abbrev S32x1 : Shape := ⟨2, ![32, 1]⟩
abbrev S32x4096 : Shape := ⟨2, ![32, 4096]⟩
abbrev S7x1 : Shape := ⟨2, ![7, 1]⟩
abbrev S7x4096 : Shape := ⟨2, ![7, 4096]⟩
abbrev S24x1 : Shape := ⟨2, ![24, 1]⟩
abbrev S24x4096 : Shape := ⟨2, ![24, 4096]⟩
abbrev S4096x20x64 : Shape := ⟨3, ![4096, 20, 64]⟩

abbrev nBuf : Space → Nat
  | .hbm => 44
  | .vmem => 16
  | .smem => 0
  | _ => 0

abbrev bufTy : (tb : Table) → Fin (tcTables nBuf tb) → BufTy
  | .hbm, ⟨0, _⟩ => ⟨S4096x20x768, .f32⟩
  | .hbm, ⟨1, _⟩ => ⟨S4096x20x128, .f32⟩
  | .hbm, ⟨2, _⟩ => ⟨S4096x20, .i32⟩
  | .hbm, ⟨3, _⟩ => ⟨S4096x20, .i32⟩
  | .hbm, ⟨4, _⟩ => ⟨S4096x20, .i1⟩
  | .hbm, ⟨5, _⟩ => ⟨S4096x20, .i32⟩
  | .hbm, ⟨6, _⟩ => ⟨S4096x20, .i32⟩
  | .hbm, ⟨7, _⟩ => ⟨S4096x20, .i32⟩
  | .hbm, ⟨8, _⟩ => ⟨S896x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S2x64, .f32⟩
  | .hbm, ⟨13, _⟩ => ⟨S3x64, .f32⟩
  | .hbm, ⟨14, _⟩ => ⟨S32x64, .f32⟩
  | .hbm, ⟨15, _⟩ => ⟨S7x64, .f32⟩
  | .hbm, ⟨16, _⟩ => ⟨S24x64, .f32⟩
  | .hbm, ⟨17, _⟩ => ⟨S20x4096x768, .f32⟩
  | .hbm, ⟨18, _⟩ => ⟨S20x4096x128, .f32⟩
  | .hbm, ⟨19, _⟩ => ⟨S_, .i32⟩
  | .hbm, ⟨20, _⟩ => ⟨S4096x20, .i32⟩
  | .hbm, ⟨21, _⟩ => ⟨S4096x20, .i32⟩
  | .hbm, ⟨22, _⟩ => ⟨S4096x20, .i32⟩
  | .hbm, ⟨23, _⟩ => ⟨S_, .i32⟩
  | .hbm, ⟨24, _⟩ => ⟨S4096x20, .i32⟩
  | .hbm, ⟨25, _⟩ => ⟨S4096x20, .i32⟩
  | .hbm, ⟨26, _⟩ => ⟨S4096x20, .i32⟩
  | .hbm, ⟨27, _⟩ => ⟨S_, .i32⟩
  | .hbm, ⟨28, _⟩ => ⟨S4096x20, .i32⟩
  | .hbm, ⟨29, _⟩ => ⟨S4096x20, .i32⟩
  | .hbm, ⟨30, _⟩ => ⟨S4096x20, .i32⟩
  | .hbm, ⟨31, _⟩ => ⟨S_, .i32⟩
  | .hbm, ⟨32, _⟩ => ⟨S4096x20, .i32⟩
  | .hbm, ⟨33, _⟩ => ⟨S4096x20, .i32⟩
  | .hbm, ⟨34, _⟩ => ⟨S4096x20, .i32⟩
  | .hbm, ⟨35, _⟩ => ⟨S20x4096, .i32⟩
  | .hbm, ⟨36, _⟩ => ⟨S20x1x4096, .i32⟩
  | .hbm, ⟨37, _⟩ => ⟨S1x64, .f32⟩
  | .hbm, ⟨38, _⟩ => ⟨S2x64, .f32⟩
  | .hbm, ⟨39, _⟩ => ⟨S2x64, .f32⟩
  | .hbm, ⟨40, _⟩ => ⟨S64x896, .f32⟩
  | .hbm, ⟨41, _⟩ => ⟨S64x1, .f32⟩
  | .hbm, ⟨42, _⟩ => ⟨S20x64x4096, .f32⟩
  | .hbm, ⟨43, _⟩ => ⟨S4096x20x64, .f32⟩
  | .local _ .vmem, ⟨0, _⟩ => ⟨S1x4096x768, .f32⟩
  | .local _ .vmem, ⟨1, _⟩ => ⟨S1x4096x768, .f32⟩
  | .local _ .vmem, ⟨2, _⟩ => ⟨S1x4096x128, .f32⟩
  | .local _ .vmem, ⟨3, _⟩ => ⟨S1x4096x128, .f32⟩
  | .local _ .vmem, ⟨4, _⟩ => ⟨S1x1x4096, .i32⟩
  | .local _ .vmem, ⟨5, _⟩ => ⟨S1x1x4096, .i32⟩
  | .local _ .vmem, ⟨6, _⟩ => ⟨S64x896, .f32⟩
  | .local _ .vmem, ⟨7, _⟩ => ⟨S64x1, .f32⟩
  | .local _ .vmem, ⟨8, _⟩ => ⟨S64x64, .f32⟩
  | .local _ .vmem, ⟨9, _⟩ => ⟨S2x64, .f32⟩
  | .local _ .vmem, ⟨10, _⟩ => ⟨S3x64, .f32⟩
  | .local _ .vmem, ⟨11, _⟩ => ⟨S32x64, .f32⟩
  | .local _ .vmem, ⟨12, _⟩ => ⟨S7x64, .f32⟩
  | .local _ .vmem, ⟨13, _⟩ => ⟨S24x64, .f32⟩
  | .local _ .vmem, ⟨14, _⟩ => ⟨S1x64x4096, .f32⟩
  | .local _ .vmem, ⟨15, _⟩ => ⟨S1x64x4096, .f32⟩
  | _, _ => ⟨S4096x20x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![20, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S7x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S24x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x20x768 : Shape := ⟨3, ![4096, 20, 768]⟩
abbrev S4096x20x128 : Shape := ⟨3, ![4096, 20, 128]⟩
abbrev S4096x20 : Shape := ⟨2, ![4096, 20]⟩
abbrev S896x64 : Shape := ⟨2, ![896, 64]⟩
abbrev S64 : Shape := ⟨1, ![64]⟩
abbrev S64x64 : Shape := ⟨2, ![64, 64]⟩
abbrev S2x64 : Shape := ⟨2, ![2, 64]⟩
abbrev S3x64 : Shape := ⟨2, ![3, 64]⟩
abbrev S32x64 : Shape := ⟨2, ![32, 64]⟩
abbrev S7x64 : Shape := ⟨2, ![7, 64]⟩
abbrev S24x64 : Shape := ⟨2, ![24, 64]⟩
abbrev S4096x20x896 : Shape := ⟨3, ![4096, 20, 896]⟩
abbrev S4096x20x64 : Shape := ⟨3, ![4096, 20, 64]⟩
abbrev S1x1x64 : Shape := ⟨3, ![1, 1, 64]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩

abbrev nBuf : Space → Nat
  | .hbm => 165
  | .vmem => 0
  | .smem => 0
  | _ => 0

abbrev hbmTy0_0 (i : Nat) : BufTy := match i % 128 with
  | 0 => ⟨S4096x20x768, .f32⟩
  | 1 => ⟨S4096x20x128, .f32⟩
  | 2 => ⟨S4096x20, .i32⟩
  | 3 => ⟨S4096x20, .i32⟩
  | 4 => ⟨S4096x20, .i1⟩
  | 5 => ⟨S4096x20, .i32⟩
  | 6 => ⟨S4096x20, .i32⟩
  | 7 => ⟨S4096x20, .i32⟩
  | 8 => ⟨S896x64, .f32⟩
  | 9 => ⟨S64, .f32⟩
  | 10 => ⟨S64x64, .f32⟩
  | 11 => ⟨S64, .f32⟩
  | 12 => ⟨S2x64, .f32⟩
  | 13 => ⟨S3x64, .f32⟩
  | 14 => ⟨S32x64, .f32⟩
  | 15 => ⟨S7x64, .f32⟩
  | 16 => ⟨S24x64, .f32⟩
  | 17 => ⟨S4096x20x896, .f32⟩
  | 18 => ⟨S4096x20x64, .f32⟩
  | 19 => ⟨S1x1x64, .f32⟩
  | 20 => ⟨S4096x20x64, .f32⟩
  | 21 => ⟨S4096x20x64, .f32⟩
  | 22 => ⟨S_, .f32⟩
  | 23 => ⟨S_, .f32⟩
  | 24 => ⟨S4096x20x64, .f32⟩
  | 25 => ⟨S4096x20x64, .i1⟩
  | 26 => ⟨S_, .f32⟩
  | 27 => ⟨S4096x20x64, .f32⟩
  | 28 => ⟨S4096x20x64, .i1⟩
  | 29 => ⟨S_, .f32⟩
  | 30 => ⟨S_, .f32⟩
  | 31 => ⟨S4096x20x64, .f32⟩
  | 32 => ⟨S4096x20x64, .f32⟩
  | 33 => ⟨S4096x20x64, .f32⟩
  | 34 => ⟨S_, .f32⟩
  | 35 => ⟨S4096x20x64, .f32⟩
  | 36 => ⟨S4096x20x64, .f32⟩
  | 37 => ⟨S4096x20x64, .f32⟩
  | 38 => ⟨S_, .f32⟩
  | 39 => ⟨S4096x20x64, .f32⟩
  | 40 => ⟨S4096x20x64, .f32⟩
  | 41 => ⟨S4096x20x64, .f32⟩
  | 42 => ⟨S1x1x64, .f32⟩
  | 43 => ⟨S4096x20x64, .f32⟩
  | 44 => ⟨S4096x20x64, .f32⟩
  | 45 => ⟨S_, .i32⟩
  | 46 => ⟨S4096x20, .i32⟩
  | 47 => ⟨S4096x20, .i1⟩
  | 48 => ⟨S_, .i32⟩
  | 49 => ⟨S4096x20, .i32⟩
  | 50 => ⟨S4096x20, .i32⟩
  | 51 => ⟨S4096x20, .i32⟩
  | 52 => ⟨S4096x20x1, .i32⟩
  | 53 => ⟨S1, .i32⟩
  | 54 => ⟨S_, .i32⟩
  | 55 => ⟨S4096x20x1, .i32⟩
  | 56 => ⟨S4096x20x1, .i1⟩
  | 57 => ⟨S1x1x1, .i32⟩
  | 58 => ⟨S4096x20x1, .i32⟩
  | 59 => ⟨S4096x20x1, .i1⟩
  | 60 => ⟨S4096x20x1, .i1⟩
  | 61 => ⟨S_, .i1⟩
  | 62 => ⟨S4096x20, .i1⟩
  | 63 => ⟨S4096x20x64, .f32⟩
  | 64 => ⟨S4096x20x64, .i1⟩
  | 65 => ⟨S_, .f32⟩
  | 66 => ⟨S4096x20x64, .f32⟩
  | 67 => ⟨S4096x20x64, .f32⟩
  | 68 => ⟨S4096x20x64, .f32⟩
  | 69 => ⟨S_, .i32⟩
  | 70 => ⟨S4096x20, .i32⟩
  | 71 => ⟨S4096x20, .i1⟩
  | 72 => ⟨S_, .i32⟩
  | 73 => ⟨S4096x20, .i32⟩
  | 74 => ⟨S4096x20, .i32⟩
  | 75 => ⟨S4096x20, .i32⟩
  | 76 => ⟨S4096x20x1, .i32⟩
  | 77 => ⟨S1, .i32⟩
  | 78 => ⟨S_, .i32⟩
  | 79 => ⟨S4096x20x1, .i32⟩
  | 80 => ⟨S4096x20x1, .i1⟩
  | 81 => ⟨S1x1x1, .i32⟩
  | 82 => ⟨S4096x20x1, .i32⟩
  | 83 => ⟨S4096x20x1, .i1⟩
  | 84 => ⟨S4096x20x1, .i1⟩
  | 85 => ⟨S_, .i1⟩
  | 86 => ⟨S4096x20, .i1⟩
  | 87 => ⟨S4096x20x64, .f32⟩
  | 88 => ⟨S4096x20x64, .i1⟩
  | 89 => ⟨S_, .f32⟩
  | 90 => ⟨S4096x20x64, .f32⟩
  | 91 => ⟨S4096x20x64, .f32⟩
  | 92 => ⟨S4096x20x64, .f32⟩
  | 93 => ⟨S_, .i32⟩
  | 94 => ⟨S4096x20, .i32⟩
  | 95 => ⟨S4096x20, .i1⟩
  | 96 => ⟨S_, .i32⟩
  | 97 => ⟨S4096x20, .i32⟩
  | 98 => ⟨S4096x20, .i32⟩
  | 99 => ⟨S4096x20, .i32⟩
  | 100 => ⟨S4096x20x1, .i32⟩
  | 101 => ⟨S1, .i32⟩
  | 102 => ⟨S_, .i32⟩
  | 103 => ⟨S4096x20x1, .i32⟩
  | 104 => ⟨S4096x20x1, .i1⟩
  | 105 => ⟨S1x1x1, .i32⟩
  | 106 => ⟨S4096x20x1, .i32⟩
  | 107 => ⟨S4096x20x1, .i1⟩
  | 108 => ⟨S4096x20x1, .i1⟩
  | 109 => ⟨S_, .i1⟩
  | 110 => ⟨S4096x20, .i1⟩
  | 111 => ⟨S4096x20x64, .f32⟩
  | 112 => ⟨S4096x20x64, .i1⟩
  | 113 => ⟨S_, .f32⟩
  | 114 => ⟨S4096x20x64, .f32⟩
  | 115 => ⟨S4096x20x64, .f32⟩
  | 116 => ⟨S4096x20x64, .f32⟩
  | 117 => ⟨S_, .i32⟩
  | 118 => ⟨S4096x20, .i32⟩
  | 119 => ⟨S4096x20, .i1⟩
  | 120 => ⟨S_, .i32⟩
  | 121 => ⟨S4096x20, .i32⟩
  | 122 => ⟨S4096x20, .i32⟩
  | 123 => ⟨S4096x20, .i32⟩
  | 124 => ⟨S4096x20x1, .i32⟩
  | 125 => ⟨S1, .i32⟩
  | 126 => ⟨S_, .i32⟩
  | 127 => ⟨S4096x20x1, .i32⟩
  | _ => ⟨S4096x20x768, .f32⟩

abbrev hbmTy0_1 (i : Nat) : BufTy := match i % 128 with
  | 0 => ⟨S4096x20x1, .i1⟩
  | 1 => ⟨S1x1x1, .i32⟩
  | 2 => ⟨S4096x20x1, .i32⟩
  | 3 => ⟨S4096x20x1, .i1⟩
  | 4 => ⟨S4096x20x1, .i1⟩
  | 5 => ⟨S_, .i1⟩
  | 6 => ⟨S4096x20, .i1⟩
  | 7 => ⟨S4096x20x64, .f32⟩
  | 8 => ⟨S4096x20x64, .i1⟩
  | 9 => ⟨S_, .f32⟩
  | 10 => ⟨S4096x20x64, .f32⟩
  | 11 => ⟨S4096x20x64, .f32⟩
  | 12 => ⟨S4096x20x64, .f32⟩
  | 13 => ⟨S_, .i32⟩
  | 14 => ⟨S4096x20, .i32⟩
  | 15 => ⟨S4096x20, .i1⟩
  | 16 => ⟨S_, .i32⟩
  | 17 => ⟨S4096x20, .i32⟩
  | 18 => ⟨S4096x20, .i32⟩
  | 19 => ⟨S4096x20, .i32⟩
  | 20 => ⟨S4096x20x1, .i32⟩
  | 21 => ⟨S1, .i32⟩
  | 22 => ⟨S_, .i32⟩
  | 23 => ⟨S4096x20x1, .i32⟩
  | 24 => ⟨S4096x20x1, .i1⟩
  | 25 => ⟨S1x1x1, .i32⟩
  | 26 => ⟨S4096x20x1, .i32⟩
  | 27 => ⟨S4096x20x1, .i1⟩
  | 28 => ⟨S4096x20x1, .i1⟩
  | 29 => ⟨S_, .i1⟩
  | 30 => ⟨S4096x20, .i1⟩
  | 31 => ⟨S4096x20x64, .f32⟩
  | 32 => ⟨S4096x20x64, .i1⟩
  | 33 => ⟨S_, .f32⟩
  | 34 => ⟨S4096x20x64, .f32⟩
  | 35 => ⟨S4096x20x64, .f32⟩
  | 36 => ⟨S4096x20x64, .f32⟩
  | _ => ⟨S4096x20x768, .f32⟩

abbrev hbmTy (i : Nat) : BufTy := match i / 128 with
  | 0 => hbmTy0_0 i
  | 1 => hbmTy0_1 i
  | _ => ⟨S4096x20x768, .f32⟩

abbrev bufTy : (tb : Table) → Fin (tcTables nBuf tb) → BufTy
  | .hbm, ⟨i, _⟩ => hbmTy i
  | _, _ => ⟨S4096x20x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_cst : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_cst_0 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_cst_1 : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_v0 : Ref sig .tc := ⟨.hbm, 37, rfl⟩
abbrev main_call0_cst_0 : Ref sig .tc := ⟨.hbm, 38, rfl⟩
abbrev main_call0_v1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v10 : Ref sig .tc := ⟨.hbm, 67, rfl⟩
abbrev main_v11 : Ref sig .tc := ⟨.hbm, 68, rfl⟩
abbrev main_call2_c : Ref sig .tc := ⟨.hbm, 69, rfl⟩
abbrev main_call2_v0 : Ref sig .tc := ⟨.hbm, 70, rfl⟩
abbrev main_call2_v1 : Ref sig .tc := ⟨.hbm, 71, rfl⟩
abbrev main_call2_c_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_c_1 : Ref sig .tc := ⟨.hbm, 77, rfl⟩
abbrev main_call2_c_2 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_c_3 : Ref sig .tc := ⟨.hbm, 85, rfl⟩
abbrev main_call2_v12 : Ref sig .tc := ⟨.hbm, 86, rfl⟩
abbrev main_call2_v13 : Ref sig .tc := ⟨.hbm, 87, rfl⟩
abbrev main_call2_v14 : Ref sig .tc := ⟨.hbm, 88, rfl⟩
abbrev main_call2_cst : Ref sig .tc := ⟨.hbm, 89, rfl⟩
abbrev main_call2_v15 : Ref sig .tc := ⟨.hbm, 90, rfl⟩
abbrev main_v12 : Ref sig .tc := ⟨.hbm, 91, rfl⟩
abbrev main_v13 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v14 : Ref sig .tc := ⟨.hbm, 115, rfl⟩
abbrev main_v15 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v16 : Ref sig .tc := ⟨.hbm, 139, rfl⟩
abbrev main_v17 : Ref sig .tc := ⟨.hbm, 140, rfl⟩
abbrev main_call5_c : Ref sig .tc := ⟨.hbm, 141, rfl⟩
abbrev main_call5_v0 : Ref sig .tc := ⟨.hbm, 142, rfl⟩
abbrev main_call5_v1 : Ref sig .tc := ⟨.hbm, 143, rfl⟩
abbrev main_call5_c_0 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_c_1 : Ref sig .tc := ⟨.hbm, 149, rfl⟩
abbrev main_call5_c_2 : Ref sig .tc := ⟨.hbm, 150, rfl⟩
abbrev main_call5_v6 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_c_3 : Ref sig .tc := ⟨.hbm, 157, rfl⟩
abbrev main_call5_v12 : Ref sig .tc := ⟨.hbm, 158, rfl⟩
abbrev main_call5_v13 : Ref sig .tc := ⟨.hbm, 159, rfl⟩
abbrev main_call5_v14 : Ref sig .tc := ⟨.hbm, 160, rfl⟩
abbrev main_call5_cst : Ref sig .tc := ⟨.hbm, 161, rfl⟩
abbrev main_call5_v15 : Ref sig .tc := ⟨.hbm, 162, rfl⟩
abbrev main_v18 : Ref sig .tc := ⟨.hbm, 163, rfl⟩
abbrev main_v19 : Ref sig .tc := ⟨.hbm, 164, rfl⟩

abbrev nD : Nat := 1
abbrev τ : Topo := Topo.v7x

variable {F : FTy → Type} [FloatOps F]
-- ==== Proof.Words.lean ====
/-
  Word arithmetic used on both sides.

  The kernel packs five small indices into one 32-bit word, each in a bit field of its own, and takes each of them out
  again by a shift and a mask. This module proves that the round trip gives the index back, and says what the range
  conditions of the precondition mean for a word read as a natural number.
-/
module

public import Idealize.ShloMosaic.PureOps
public import Idealize.ShloMosaic.Lib.WordArith
public import Idealize.ShloMosaic.Lib.Affine

@[expose] public section

namespace Cert.Proof.Words

open Idealize.ShloMosaic Idealize.ShloMosaic.WordArith

/-- A word that compares at least `0` and below `n` (both signed) is a natural number below `n`. -/
theorem toNat_lt_of_compares (x : BitVec 32) (n : Nat) (hn : n < 2 ^ 31)
    (h0 : IntOp.cmpi .sge x 0#32 = 1#1) (h1 : IntOp.cmpi .slt x (BitVec.ofNat 32 n) = 1#1) : x.toNat < n :=
  toNat_lt_of_zero_sle_of_slt_ofNat x n hn ((ofBool_eq_one_iff _).1 h0) ((ofBool_eq_one_iff _).1 h1)

/-- A word below `2 ^ 31` read signed is the same natural number. -/
theorem toInt_of_lt (x : BitVec 32) (n : Nat) (hn : n ≤ 2 ^ 31) (h : x.toNat < n) : x.toInt = (x.toNat : Int) := by
  rw [BitVec.toInt_eq_toNat_cond, if_pos (by omega)]

/-- A word below `n ≤ 2 ^ 31` is not negative. -/
theorem slt_zero (x : BitVec 32) (n : Nat) (hn : n ≤ 2 ^ 31) (h : x.toNat < n) : IntOp.cmpi .slt x 0#32 = 0#1 := by
  have e := toInt_of_lt x n hn h
  show BitVec.ofBool (x.slt 0#32) = 0#1
  rw [BitVec.slt_eq_decide, e, decide_eq_false (by simp)]
  rfl

/-- A word below `n ≤ 2 ^ 31` compares at least zero. -/
theorem sge_zero (x : BitVec 32) (n : Nat) (hn : n ≤ 2 ^ 31) (h : x.toNat < n) : IntOp.cmpi .sge x 0#32 = 1#1 := by
  have e := toInt_of_lt x n hn h
  show BitVec.ofBool ((0#32 : BitVec 32).sle x) = 1#1
  rw [BitVec.sle_eq_decide, e, decide_eq_true (by simp)]
  rfl

/-- A word below `n + 1` compares at most `n`. -/
theorem sle_last (x : BitVec 32) (n : Nat) (hn : n + 1 ≤ 2 ^ 31) (h : x.toNat < n + 1) :
    IntOp.cmpi .sle x (BitVec.ofNat 32 n) = 1#1 := by
  have e := toInt_of_lt x (n + 1) hn h
  have en : (BitVec.ofNat 32 n).toInt = (n : Int) := toInt_ofNat_small n (by omega)
  show BitVec.ofBool (x.sle (BitVec.ofNat 32 n)) = 1#1
  rw [BitVec.sle_eq_decide, e, en, decide_eq_true (by omega)]
  rfl

/-- The packed word: the premium flag in bit 0, the sentiment in bits 1 and 2, the temporal index in bits 3 to 7, the
    weekday in bits 8 to 10 and the hour from bit 11 on. -/
def pack (p s t w h : BitVec 32) : BitVec 32 :=
  IntOp.ori (IntOp.ori (IntOp.ori (IntOp.ori p (IntOp.shli .host s 1#32)) (IntOp.shli .host t 3#32))
    (IntOp.shli .host w 8#32)) (IntOp.shli .host h 11#32)

/-- A host shift to the left by less than 32 that loses no bit multiplies. -/
theorem toNat_shli (x : BitVec 32) (k : Nat) (hk : k < 32) (h : x.toNat * 2 ^ k < 2 ^ 32) :
    (IntOp.shli .host x (BitVec.ofNat 32 k)).toNat = x.toNat * 2 ^ k := by
  have ek : (BitVec.ofNat 32 k).toNat = k := toNat_ofNat_of_lt k (by omega)
  unfold IntOp.shli
  rw [if_pos (by rw [ek]; exact hk), BitVec.shiftLeft_eq', ek, BitVec.toNat_shiftLeft, Nat.shiftLeft_eq, Nat.mod_eq_of_lt h]

/-- The bitwise or of a word below `2 ^ k` and a multiple of `2 ^ k` is their sum. -/
theorem toNat_ori (x y : BitVec 32) (k a : Nat) (hx : x.toNat < 2 ^ k) (hy : y.toNat = a * 2 ^ k) :
    (IntOp.ori x y).toNat = x.toNat + a * 2 ^ k := by
  show (x ||| y).toNat = _
  rw [BitVec.toNat_or, hy, ← Nat.shiftLeft_eq, Nat.or_comm, ← Nat.shiftLeft_add_eq_or_of_lt hx, Nat.add_comm]

section Fields

variable {p s t w h : BitVec 32} (hp : p.toNat < 2) (hs : s.toNat < 3) (ht : t.toNat < 32) (hw : w.toNat < 7) (hh : h.toNat < 24)

include hp hs ht hw hh

/-- The packed word as a number: the five indices in mixed positions. -/
theorem toNat_pack : (pack p s t w h).toNat = p.toNat + s.toNat * 2 + t.toNat * 8 + w.toNat * 256 + h.toNat * 2048 := by
  have e1 := toNat_shli s 1 (by omega) (by omega)
  have e2 := toNat_shli t 3 (by omega) (by omega)
  have e3 := toNat_shli w 8 (by omega) (by omega)
  have e4 := toNat_shli h 11 (by omega) (by omega)
  have o1 := toNat_ori p _ 1 _ (by omega) e1
  have o2 := toNat_ori _ _ 3 _ (by rw [o1]; omega) e2
  have o3 := toNat_ori _ _ 8 _ (by rw [o2, o1]; omega) e3
  have o4 := toNat_ori _ _ 11 _ (by rw [o3, o2, o1]; omega) e4
  unfold pack
  rw [o4, o3, o2, o1]
  omega

/-- Shifting the packed word to the right by `k` and keeping the low `b` bits, as a number. -/
theorem toNat_field (k b : Nat) (hk : k < 32) (hb : b < 32) :
    (IntOp.andi (IntOp.shrsi .vector (pack p s t w h) (BitVec.ofNat 32 k)) (BitVec.ofNat 32 (2 ^ b - 1))).toNat
      = (p.toNat + s.toNat * 2 + t.toNat * 8 + w.toNat * 256 + h.toNat * 2048) / 2 ^ k % 2 ^ b := by
  have e := toNat_pack hp hs ht hw hh
  have ek : (BitVec.ofNat 32 k).toNat = k := toNat_ofNat_of_lt k (by omega)
  have hb2 : 2 ^ b < 2 ^ 32 := Nat.pow_lt_pow_right (by omega) hb
  have eb : (BitVec.ofNat 32 (2 ^ b - 1)).toNat = 2 ^ b - 1 := toNat_ofNat_of_lt _ (by omega)
  have hm : (pack p s t w h).msb = false := by
    rw [BitVec.msb_eq_false_iff_two_mul_lt, e]; omega
  unfold IntOp.shrsi
  rw [if_pos (by rw [ek]; exact hk)]
  show (_ &&& _ : BitVec 32).toNat = _
  rw [BitVec.toNat_and, eb, BitVec.sshiftRight', ek, BitVec.sshiftRight_eq_of_msb_false hm, BitVec.toNat_ushiftRight,
    Nat.shiftRight_eq_div_pow, e, Nat.and_two_pow_sub_one_eq_mod]

/-- Bit 0 of the packed word is the premium flag. -/
theorem field_premium : IntOp.andi (IntOp.shrsi .vector (pack p s t w h) 0#32) 1#32 = p :=
  BitVec.eq_of_toNat_eq (by rw [show (1#32 : BitVec 32) = BitVec.ofNat 32 (2 ^ 1 - 1) from rfl, toNat_field hp hs ht hw hh 0 1 (by omega) (by omega)]; omega)

/-- Bits 1 and 2 of the packed word are the sentiment. -/
theorem field_sentiment : IntOp.andi (IntOp.shrsi .vector (pack p s t w h) 1#32) 3#32 = s :=
  BitVec.eq_of_toNat_eq (by rw [show (3#32 : BitVec 32) = BitVec.ofNat 32 (2 ^ 2 - 1) from rfl, toNat_field hp hs ht hw hh 1 2 (by omega) (by omega)]; omega)

/-- Bits 3 to 7 of the packed word are the temporal index. -/
theorem field_temporal : IntOp.andi (IntOp.shrsi .vector (pack p s t w h) 3#32) 31#32 = t :=
  BitVec.eq_of_toNat_eq (by rw [show (31#32 : BitVec 32) = BitVec.ofNat 32 (2 ^ 5 - 1) from rfl, toNat_field hp hs ht hw hh 3 5 (by omega) (by omega)]; omega)

/-- Bits 8 to 10 of the packed word are the weekday. -/
theorem field_weekday : IntOp.andi (IntOp.shrsi .vector (pack p s t w h) 8#32) 7#32 = w :=
  BitVec.eq_of_toNat_eq (by rw [show (7#32 : BitVec 32) = BitVec.ofNat 32 (2 ^ 3 - 1) from rfl, toNat_field hp hs ht hw hh 8 3 (by omega) (by omega)]; omega)

/-- The five bits from bit 11 on of the packed word are the hour. -/
theorem field_hour : IntOp.andi (IntOp.shrsi .vector (pack p s t w h) 11#32) 31#32 = h :=
  BitVec.eq_of_toNat_eq (by rw [show (31#32 : BitVec 32) = BitVec.ofNat 32 (2 ^ 5 - 1) from rfl, toNat_field hp hs ht hw hh 11 5 (by omega) (by omega)]; omega)

end Fields

end Cert.Proof.Words

end
-- ==== Proof.Pre.lean ====
/-
  The precondition, read: every index is below its table's number of rows.
-/
module

public import proofs.«01_k».proof.Pre_indices_in_range
public import proofs.«01_k».proof.Proof.Words
public import Idealize.ShloMosaic.Lib.ValueIdx
public import Idealize.ShloMosaic.PureOps.Ideal.Laws

@[expose] public section

noncomputable section

namespace Cert.Proof.Pre

open Idealize.ShloMosaic Idealize.ShloMosaic.ValueIdx Cert.Pre_indices_in_range

/-- The predicate's one side condition: a scalar broadcasts to a 4096 by 20 array. -/
theorem facts : Cert.Pre_indices_in_range.Facts := ⟨by decide⟩

/-- Five index arrays are in range: every word is below the number of rows of its table. -/
structure InRange (pr se te we ho : S4096x20.Idx → BitVec 32) : Prop where
  /-- every premium flag names one of two rows -/
  premium : ∀ i, (pr i).toNat < 2
  /-- every sentiment names one of three rows -/
  sentiment : ∀ i, (se i).toNat < 3
  /-- every temporal index names one of 32 rows -/
  temporal : ∀ i, (te i).toNat < 32
  /-- every weekday names one of seven rows -/
  weekday : ∀ i, (we i).toNat < 7
  /-- every hour names one of 24 rows -/
  hour : ∀ i, (ho i).toNat < 24

/-- The precondition's predicate at all ones says the five index arrays are in range. -/
theorem inRange [Cert.Pre_indices_in_range.Facts] (x0 : FVec Ideal S4096x20x768 .f32) (x1 : FVec Ideal S4096x20x128 .f32)
    (x2 x3 : IVec S4096x20 32) (x4 : IVec S4096x20 1) (x5 x6 x7 : IVec S4096x20 32) (x8 : FVec Ideal S896x64 .f32)
    (x9 : FVec Ideal S64 .f32) (x10 : FVec Ideal S64x64 .f32) (x11 : FVec Ideal S64 .f32) (x12 : FVec Ideal S2x64 .f32)
    (x13 : FVec Ideal S3x64 .f32) (x14 : FVec Ideal S32x64 .f32) (x15 : FVec Ideal S7x64 .f32) (x16 : FVec Ideal S24x64 .f32)
    (h : Cert.Pre_indices_in_range.fn (F := Ideal) x0 x1 x2 x3 x4 x5 x6 x7 x8 x9 x10 x11 x12 x13 x14 x15 x16 = fun _ => 1) :
    InRange x2 x3 x5 x6 x7 := by
  have key : ∀ i : S4096x20.Idx, (((((((((IntOp.cmpi .sge (x2 i) 0#32 = 1#1 ∧ IntOp.cmpi .slt (x2 i) 2#32 = 1#1)
      ∧ IntOp.cmpi .sge (x3 i) 0#32 = 1#1) ∧ IntOp.cmpi .slt (x3 i) 3#32 = 1#1)
      ∧ IntOp.cmpi .sge (x5 i) 0#32 = 1#1) ∧ IntOp.cmpi .slt (x5 i) 32#32 = 1#1)
      ∧ IntOp.cmpi .sge (x6 i) 0#32 = 1#1) ∧ IntOp.cmpi .slt (x6 i) 7#32 = 1#1)
      ∧ IntOp.cmpi .sge (x7 i) 0#32 = 1#1) ∧ IntOp.cmpi .slt (x7 i) 24#32 = 1#1) := by
    intro i
    have hi : Cert.Pre_indices_in_range.fn (F := Ideal) x0 x1 x2 x3 x4 x5 x6 x7 x8 x9 x10 x11 x12 x13 x14 x15 x16 i = 1#1 := by
      rw [h]
      rfl
    simp only [← IntOp.andi_eq_one]
    exact hi
  refine ⟨fun i => ?_, fun i => ?_, fun i => ?_, fun i => ?_, fun i => ?_⟩ <;>
    obtain ⟨⟨⟨⟨⟨⟨⟨⟨⟨a0, a1⟩, b0⟩, b1⟩, c0⟩, c1⟩, d0⟩, d1⟩, e0⟩, e1⟩ := key i
  · exact Words.toNat_lt_of_compares _ 2 (by omega) a0 a1
  · exact Words.toNat_lt_of_compares _ 3 (by omega) b0 b1
  · exact Words.toNat_lt_of_compares _ 32 (by omega) c0 c1
  · exact Words.toNat_lt_of_compares _ 7 (by omega) d0 d1
  · exact Words.toNat_lt_of_compares _ 24 (by omega) e0 e1

end Cert.Proof.Pre

end
-- ==== Proof.Spec.lean ====
/-
  The mathematics of the problem, with no program in it: what one element of the result is, as extended reals.

  Each token's two embeddings go through a two-layer perceptron with a SELU between the layers, and five table rows,
  chosen by five indices, are added.
-/
module

public import Idealize.ShloMosaic.PureOps.Ideal.Laws
public import Idealize.ShloMosaic.Lib.ValueIdx

@[expose] public section

noncomputable section

namespace Cert.Proof.Spec

open Idealize.ShloMosaic Idealize.ShloMosaic.ValueIdx
open scoped BigOperators

/-- An array of extended reals with three axes. -/
abbrev Arr3 (a b c : Nat) := (⟨3, ![a, b, c]⟩ : Shape).Idx → EReal
/-- An array of extended reals with two axes. -/
abbrev Arr2 (a b : Nat) := (⟨2, ![a, b]⟩ : Shape).Idx → EReal
/-- An array of extended reals with one axis. -/
abbrev Arr1 (a : Nat) := (⟨1, ![a]⟩ : Shape).Idx → EReal
/-- An array of 32-bit words with two axes. -/
abbrev Words2 (a b : Nat) := (⟨2, ![a, b]⟩ : Shape).Idx → BitVec 32

/-- The SELU activation at its two printed constants: `scale · x` above zero, `scale · (alpha · (exp x − 1))` at and
    below it. -/
def selu (x : EReal) : EReal :=
  Ideal.ofBits .f32 0x3F867D5F#32 * if 0 < x then x else Ideal.ofBits .f32 0x3FD62D7D#32 * (Ideal.exp x - 1)

/-- The hidden layer before its activation: token `(b, l)`'s two embeddings against the first layer's weights, the text
    embedding against the first 768 rows and the category embedding against the last 128, plus the bias. -/
def hidden (e : Arr3 4096 20 768) (g : Arr3 4096 20 128) (w1 : Arr2 896 64) (b1 : Arr1 64) (b : Fin 4096) (l : Fin 20)
    (d : Fin 64) : EReal :=
  (∑ k : Fin 768, e (ix3 b l k) * w1 (ix2 ⟨k.val, by omega⟩ d))
    + (∑ k : Fin 128, g (ix3 b l k) * w1 (ix2 ⟨768 + k.val, by omega⟩ d)) + b1 (ix1 d)

/-- The perceptron's output: the activated hidden layer against the second layer's weights, plus the bias. -/
def mlp (e : Arr3 4096 20 768) (g : Arr3 4096 20 128) (w1 : Arr2 896 64) (b1 : Arr1 64) (w2 : Arr2 64 64) (b2 : Arr1 64)
    (b : Fin 4096) (l : Fin 20) (j : Fin 64) : EReal :=
  (∑ d : Fin 64, selu (hidden e g w1 b1 b l d) * w2 (ix2 d j)) + b2 (ix1 j)

/-- Column `j` of the row of a table that a word names; a word past the last row names the last one. -/
def row {n : Nat} (hn : 0 < n) (tab : Arr2 n 64) (w : BitVec 32) (j : Fin 64) : EReal :=
  tab (ix2 ⟨min w.toNat (n - 1), by omega⟩ j)

/-- One element of the result: the perceptron's output plus the rows of the five tables that token `(b, l)`'s five
    indices name. -/
def target (e : Arr3 4096 20 768) (g : Arr3 4096 20 128) (pr se te we ho : Words2 4096 20) (w1 : Arr2 896 64)
    (b1 : Arr1 64) (w2 : Arr2 64 64) (b2 : Arr1 64) (ptab : Arr2 2 64) (stab : Arr2 3 64) (ttab : Arr2 32 64)
    (wtab : Arr2 7 64) (htab : Arr2 24 64) (b : Fin 4096) (l : Fin 20) (j : Fin 64) : EReal :=
  mlp e g w1 b1 w2 b2 b l j + row (by omega) ptab (pr (ix2 b l)) j + row (by omega) stab (se (ix2 b l)) j
    + row (by omega) ttab (te (ix2 b l)) j + row (by omega) wtab (we (ix2 b l)) j + row (by omega) htab (ho (ix2 b l)) j

/-- A word below the number of rows names the row of that number. -/
theorem row_of_lt {n : Nat} (hn : 0 < n) (tab : Arr2 n 64) (w : BitVec 32) (j : Fin 64) (h : w.toNat < n) :
    row hn tab w j = tab (ix2 ⟨w.toNat, h⟩ j) := by
  unfold row
  congr 2
  exact Fin.ext (by show min w.toNat (n - 1) = w.toNat; omega)

/-- A sum over a table's rows of an entry times a 0/1 mark that is 1 at exactly the row the word names is the entry of
    that row: zero times anything is zero and one times anything is that thing, at the infinities too. -/
theorem sum_mark {n : Nat} (hn : 0 < n) (tab : Arr2 n 64) (w : BitVec 32) (j : Fin 64) (h : w.toNat < n)
    (mark : Fin n → EReal) (hm : ∀ k, mark k = if k.val = w.toNat then 1 else 0) :
    ∑ k : Fin n, tab (ix2 k j) * mark k = row hn tab w j := by
  rw [row_of_lt hn tab w j h, Finset.sum_eq_single (⟨w.toNat, h⟩ : Fin n)]
  · rw [hm, if_pos rfl, mul_one]
  · intro k _ hk
    rw [hm, if_neg (fun e => hk (Fin.ext e)), mul_zero]
  · intro hk; exact absurd (Finset.mem_univ _) hk

/-- A sum over 896 terms is the sum over the first 768 plus the sum over the last 128. -/
theorem sum_split (f : Fin 896 → EReal) :
    ∑ k : Fin 896, f k = (∑ k : Fin 768, f ⟨k.val, by omega⟩) + ∑ k : Fin 128, f ⟨768 + k.val, by omega⟩ :=
  Fin.sum_univ_add (a := 768) (b := 128) f

end Cert.Proof.Spec

end
-- ==== Proof.Take.lean ====
/-
  The reference's table lookup, read at an index.

  `jnp.take` of rows of a table prints as: a negative index has the number of rows added, the row is gathered, and a row
  whose index is out of range is replaced by a fill value. For indices within the table the element read is the entry of
  the row the index names.
-/
module

public import proofs.«01_k».proof.Proof.Gen.ReferenceIdeal
public import proofs.«01_k».proof.Proof.Words
public import proofs.«01_k».proof.Proof.Spec
public import Idealize.ShloMosaic.Lib.Pipeline.Value
public import Idealize.ShloMosaic.Lib.IdealHost
public import Idealize.ShloMosaic.Lib.ReduceAll

@[expose] public section

set_option maxRecDepth 16384

noncomputable section

namespace Cert.Proof.Take

open Idealize.ShloMosaic Idealize.ShloMosaic.ValueIdx Cert.ReferenceIdeal Cert.ReferenceIdeal.Gen

section Rows

variable {α : Type}

/-- The dimension numbers of a lookup of whole rows: operand `[N, 64]`, start indices `[4096, 20, 1]`, result
    `[4096, 20, 64]`. -/
abbrev rowsDims (N : Nat)
    (wf : GatherDims.WF ⟨2, ![N, 64]⟩ S4096x20x1 S4096x20x64 [2] [0] [] [0] [] 2 ![1, 64]) :
    GatherDims ⟨2, ![N, 64]⟩ S4096x20x1 S4096x20x64 where
  offsetDims := [2]
  collapsedSliceDims := [0]
  operandBatchingDims := []
  startIndicesBatchingDims := []
  startIndexMap := [0]
  indexVectorDim := 2
  sliceSizes := ![1, 64]
  wf := wf

/-- A lookup of rows reads, at `(b, l, j)`, column `j` of the row that the start index at `(b, l)` names, read signed and
    clamped to the table. -/
theorem gather_rows_apply {N w : Nat} (hN : 0 < N)
    (wf : GatherDims.WF ⟨2, ![N, 64]⟩ S4096x20x1 S4096x20x64 [2] [0] [] [0] [] 2 ![1, 64])
    (x : (⟨2, ![N, 64]⟩ : Shape).Idx → α) (idx : IVec S4096x20x1 w) (b : Fin 4096) (l : Fin 20) (j : Fin 64) :
    Host.gather (rowsDims N wf) x idx (ix3 b l j)
      = x (ix2 ⟨min (idx (ix3 b l 0)).toInt.toNat (N - 1), by omega⟩ j) := by
  unfold Host.gather
  congr 1
  funext a
  refine Fin.ext ?_
  show (rowsDims N wf).start (ix3 b l j) idx a + (rowsDims N wf).batchCoord (ix3 b l j) a
      + (rowsDims N wf).offCoord (ix3 b l j) a = _
  rw [GatherDims.batchCoord_eq_zero _ _ _ (fun h => by simp at h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowsDims N wf).startIndexMap from List.mem_singleton.mpr rfl)]
    have hsi : (rowsDims N wf).siIdx (ix3 b l j) ⟨List.idxOf (0 : Fin 2) (rowsDims N wf).startIndexMap,
        List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  · have h0 : (rowsDims N wf).start (ix3 b l j) idx (1 : Fin 2) = 0 := by
      unfold GatherDims.start
      rw [dif_neg (fun h => by simp at h)]
    rw [h0]
    have hk : (1 : Fin 2) ∈ (rowsDims N wf).sKept := (GatherDims.mem_sKept _ _).mpr ⟨by simp, by simp⟩
    unfold GatherDims.offCoord
    rw [dif_pos hk]
    show 0 + 0 + j.val = j.val
    omega

end Rows

/-- The printed lookup of rows of an `N`-row table: `cN` is the number of rows and `cL` the last row, as words. -/
def takeOf (N : Nat) (g : GatherDims ⟨2, ![N, 64]⟩ S4096x20x1 S4096x20x64) (cN cL : BitVec 32)
    (x : IVec S4096x20 32) (tab : FVec Ideal ⟨2, ![N, 64]⟩ .f32) : FVec Ideal S4096x20x64 .f32 :=
  let ind : IVec S4096x20x1 32 := broadcastInDim S4096x20x1 ![0, 1] bcast_S4096x20_S4096x20x1_0_1
    (select (cmpi .slt x (broadcastInDim S4096x20 ![] bcast_S_S4096x20 (constantI S_ 32 0#32)))
      (addi x (broadcastInDim S4096x20 ![] bcast_S_S4096x20 (constantI S_ 32 cN))) x)
  select
    (broadcastInDim S4096x20x64 ![0, 1] bcast_S4096x20_S4096x20x64_0_1
      (Host.reduce IntOp.andi
        (andi (cmpi .sge ind (broadcastInDim S4096x20x1 ![] bcast_S_S4096x20x1 (constantI S_ 32 0#32)))
          (cmpi .sle ind (broadcastInDim S4096x20x1 ![0, 1, 2] bcast_S1x1x1_S4096x20x1_0_1_2
            (broadcastInDim S1x1x1 ![2] bcast_S1_S1x1x1_2 (constantI S1 32 cL)))))
        (constantI S_ 1 1#1) reducesTo_S4096x20x1_S4096x20_d2 h_S_))
    (Host.gather g tab ind)
    (broadcastInDim S4096x20x64 ![] bcast_S_S4096x20x64 (constant S_ .f32 0x7FC00000#32))

/-- An index array with a trailing axis of size one reads the index at the first two coordinates. -/
theorem ind_apply (y : IVec S4096x20 32) (i : S4096x20x1.Idx) :
    broadcastInDim S4096x20x1 ![0, 1] bcast_S4096x20_S4096x20x1_0_1 y i = y (ix2 (i 0) (i 1)) :=
  broadcastInDim_apply _ bcast_S4096x20_S4096x20x1_0_1 y i (ix2 (i 0) (i 1)) (fun a => match a with
    | ⟨0, _⟩ => by show (i 0).val = if (4096 : Nat) = 1 then 0 else (i 0).val; rw [if_neg (by decide)]
    | ⟨1, _⟩ => by show (i 1).val = if (20 : Nat) = 1 then 0 else (i 1).val; rw [if_neg (by decide)])

/-- A mark per token, broadcast along the columns, reads the token's mark. -/
theorem mark_apply (y : IVec S4096x20 1) (b : Fin 4096) (l : Fin 20) (j : Fin 64) :
    broadcastInDim S4096x20x64 ![0, 1] bcast_S4096x20_S4096x20x64_0_1 y (ix3 b l j) = y (ix2 b l) :=
  broadcastInDim_apply _ bcast_S4096x20_S4096x20x64_0_1 y (ix3 b l j) (ix2 b l) (fun a => match a with
    | ⟨0, _⟩ => by show b.val = if (4096 : Nat) = 1 then 0 else b.val; rw [if_neg (by decide)]
    | ⟨1, _⟩ => by show l.val = if (20 : Nat) = 1 then 0 else l.val; rw [if_neg (by decide)])

/-- The lookup of an index within the table is the entry of the row it names: no index is wrapped, none is clamped and
    no row is replaced by the fill value. -/
theorem takeOf_apply (N : Nat) (hN : N < 2 ^ 31)
    (wf : GatherDims.WF ⟨2, ![N + 1, 64]⟩ S4096x20x1 S4096x20x64 [2] [0] [] [0] [] 2 ![1, 64])
    (cN : BitVec 32) (x : IVec S4096x20 32) (tab : FVec Ideal ⟨2, ![N + 1, 64]⟩ .f32)
    (hx : ∀ i, (x i).toNat < N + 1) (b : Fin 4096) (l : Fin 20) (j : Fin 64) :
    takeOf (N + 1) (rowsDims (N + 1) wf) cN (BitVec.ofNat 32 N) x tab (ix3 b l j)
      = Spec.row (by omega) tab (x (ix2 b l)) j := by
  have hsel : select (cmpi .slt x (broadcastInDim S4096x20 ![] bcast_S_S4096x20 (constantI S_ 32 0#32)))
      (addi x (broadcastInDim S4096x20 ![] bcast_S_S4096x20 (constantI S_ 32 cN))) x = x := by
    funext i
    show Scalar.select (IntOp.cmpi .slt (x i) 0#32) _ (x i) = x i
    rw [Words.slt_zero (x i) (N + 1) (by omega) (hx i)]
    rfl
  unfold takeOf
  rw [hsel]
  dsimp only
  rw [select_apply, mark_apply, Host.reduce_andi_one _ _ _ _ _ rfl (fun i => ?_)]
  · show Host.gather _ _ _ _ = _
    rw [gather_rows_apply (by omega) wf]
    have hi : broadcastInDim S4096x20x1 ![0, 1] bcast_S4096x20_S4096x20x1_0_1 x (ix3 b l 0) = x (ix2 b l) := ind_apply x _
    unfold Spec.row
    congr 2
    refine Fin.ext ?_
    show min (broadcastInDim S4096x20x1 ![0, 1] bcast_S4096x20_S4096x20x1_0_1 x (ix3 b l 0)).toInt.toNat (N + 1 - 1)
      = min (x (ix2 b l)).toNat (N + 1 - 1)
    rw [hi, Words.toInt_of_lt _ (N + 1) (by omega) (hx _), Int.toNat_natCast]
  · show IntOp.andi (IntOp.cmpi .sge (broadcastInDim S4096x20x1 ![0, 1] bcast_S4096x20_S4096x20x1_0_1 x i) 0#32)
      (IntOp.cmpi .sle (broadcastInDim S4096x20x1 ![0, 1] bcast_S4096x20_S4096x20x1_0_1 x i) (BitVec.ofNat 32 N)) = 1#1
    rw [ind_apply, Words.sge_zero _ (N + 1) (by omega) (hx _), Words.sle_last _ N (by omega) (hx _)]
    rfl

end Cert.Proof.Take

end
-- ==== Proof.RefValue.lean ====
/-
  What the reference computes: its first result, read at an index, is the target of `Spec`.
-/
module

public import proofs.«01_k».proof.Proof.Gen.ReferenceIdeal.Read
public import proofs.«01_k».proof.Proof.Take
public import proofs.«01_k».proof.Proof.Pre
public import proofs.«01_k».proof.Proof.Spec

@[expose] public section

set_option maxRecDepth 16384

noncomputable section

namespace Cert.Proof.RefValue

open Idealize.ShloMosaic Idealize.ShloMosaic.ValueIdx Cert.ReferenceIdeal Cert.ReferenceIdeal.Gen Cert.ReferenceIdeal.Read
open scoped BigOperators

variable (x0 : FVec Ideal S4096x20x768 .f32) (x1 : FVec Ideal S4096x20x128 .f32)
    (x2 x3 x5 x6 x7 : IVec S4096x20 32) (x8 : FVec Ideal S896x64 .f32)
    (x9 : FVec Ideal S64 .f32) (x10 : FVec Ideal S64x64 .f32) (x11 : FVec Ideal S64 .f32) (x12 : FVec Ideal S2x64 .f32)
    (x13 : FVec Ideal S3x64 .f32) (x14 : FVec Ideal S32x64 .f32) (x15 : FVec Ideal S7x64 .f32) (x16 : FVec Ideal S24x64 .f32)

/-- The joined embedding's first 768 columns are the text embedding. -/
theorem concat_left (b : Fin 4096) (l : Fin 20) (k : Fin 768) :
    val_main_v0 (F := Ideal) x0 x1 (ix3 b l ⟨k.val, by omega⟩) = x0 (ix3 b l k) := by
  unfold val_main_v0
  exact concatenate_pair_apply_left (t := S4096x20x896) 2 x0 x1 concatenates_S4096x20x768_S4096x20x128_S4096x20x896_d2
    (ix3 b l ⟨k.val, by omega⟩) rfl (ix3 b l k) (fun a => match a with
    | ⟨0, _⟩ => rfl
    | ⟨1, _⟩ => rfl
    | ⟨2, _⟩ => rfl)

/-- The joined embedding's last 128 columns are the category embedding. -/
theorem concat_right (b : Fin 4096) (l : Fin 20) (k : Fin 128) :
    val_main_v0 (F := Ideal) x0 x1 (ix3 b l ⟨768 + k.val, by omega⟩) = x1 (ix3 b l k) := by
  unfold val_main_v0
  exact concatenate_pair_apply_right (t := S4096x20x896) 2 x0 x1 concatenates_S4096x20x768_S4096x20x128_S4096x20x896_d2
    (ix3 b l ⟨768 + k.val, by omega⟩) rfl rfl (ix3 b l k) (fun a ha => match a with
    | ⟨0, _⟩ => rfl
    | ⟨1, _⟩ => rfl
    | ⟨2, _⟩ => absurd rfl ha) (Nat.add_comm _ _)

/-- The reference's hidden layer. -/
theorem hidden_apply (b : Fin 4096) (l : Fin 20) (d : Fin 64) :
    val_main_v4 (F := Ideal) x0 x1 x8 x9 (ix3 b l d) = Spec.hidden x0 x1 x8 x9 b l d := by
  rw [val_main_v4_apply, val_main_v1_apply, val_main_v3_apply, val_main_v2_apply, Spec.sum_split]
  have e9 : idx_main_v2 (idx_main_v3 (ix3 b l d)) = ix1 d := by
    rw [eq_ix1 (idx_main_v2 (idx_main_v3 (ix3 b l d)))]; rfl
  have el : ∀ k, lidx_main_v1 (ix3 b l d) k = ix3 b l k := fun k => eq_ix3 _
  have er : ∀ k, ridx_main_v1 (ix3 b l d) k = ix2 k d := fun k => eq_ix2 _
  simp only [el, er, e9, concat_left, concat_right]
  rfl

/-- The reference's activation is the SELU of its hidden layer. Its exponential is taken of zero where the hidden value is
    positive, and there the other branch is chosen. -/
theorem selu_apply (i : S4096x20x64.Idx) :
    val_main_v5 (F := Ideal) x0 x1 x8 x9 i = Spec.selu (val_main_v4 (F := Ideal) x0 x1 x8 x9 i) := by
  have h1 : val_main_v5 (F := Ideal) x0 x1 x8 x9 i
      = Ideal.ofBits .f32 0x3F867D5F#32 * Scalar.select (Ideal.cmp .ogt (val_main_v4 (F := Ideal) x0 x1 x8 x9 i) (Ideal.ofBits .f32 0#32))
          (val_main_v4 (F := Ideal) x0 x1 x8 x9 i)
          (Ideal.ofBits .f32 0x3FD62D7D#32 * (Ideal.exp (Scalar.select (Ideal.cmp .ogt (val_main_v4 (F := Ideal) x0 x1 x8 x9 i) (Ideal.ofBits .f32 0#32))
            (Ideal.ofBits .f32 0#32) (val_main_v4 (F := Ideal) x0 x1 x8 x9 i)) - 1)) := rfl
  rw [h1]
  generalize val_main_v4 (F := Ideal) x0 x1 x8 x9 i = x
  unfold Spec.selu Scalar.select Ideal.cmp
  rw [Ideal.ofBits_zero_f32]
  by_cases h : 0 < x
  · simp [h]
  · simp [h]

/-- The perceptron of the reference. -/
theorem mlp_apply (b : Fin 4096) (l : Fin 20) (j : Fin 64) :
    val_main_v9 (F := Ideal) x0 x1 x8 x9 x10 x11 (ix3 b l j) = Spec.mlp x0 x1 x8 x9 x10 x11 b l j := by
  rw [val_main_v9_apply, val_main_v6_apply, val_main_v8_apply, val_main_v7_apply]
  have e11 : idx_main_v7 (idx_main_v8 (ix3 b l j)) = ix1 j := by
    rw [eq_ix1 (idx_main_v7 (idx_main_v8 (ix3 b l j)))]; rfl
  have el : ∀ k, lidx_main_v6 (ix3 b l j) k = ix3 b l k := fun k => eq_ix3 _
  have er : ∀ k, ridx_main_v6 (ix3 b l j) k = ix2 k j := fun k => eq_ix2 _
  simp only [el, er, e11, selu_apply, hidden_apply]
  rfl

variable {x2 x3 x5 x6 x7} (hr : Pre.InRange x2 x3 x5 x6 x7) (b : Fin 4096) (l : Fin 20) (j : Fin 64)

include hr

/-- The premium row. -/
theorem premium_apply : val_main_v10 (F := Ideal) x2 x12 (ix3 b l j) = Spec.row (by omega) x12 (x2 (ix2 b l)) j :=
  Take.takeOf_apply 1 (by omega) Facts₀.gather_S2x64_S4096x20x1_S4096x20x64_2_0_n_n_0_2_164_wf 2#32 x2 x12 hr.premium b l j

/-- The sentiment row. -/
theorem sentiment_apply : val_main_v12 (F := Ideal) x3 x13 (ix3 b l j) = Spec.row (by omega) x13 (x3 (ix2 b l)) j :=
  Take.takeOf_apply 2 (by omega) Facts₀.gather_S3x64_S4096x20x1_S4096x20x64_2_0_n_n_0_2_164_wf 3#32 x3 x13 hr.sentiment b l j

/-- The temporal row. -/
theorem temporal_apply : val_main_v14 (F := Ideal) x5 x14 (ix3 b l j) = Spec.row (by omega) x14 (x5 (ix2 b l)) j :=
  Take.takeOf_apply 31 (by omega) Facts₀.gather_S32x64_S4096x20x1_S4096x20x64_2_0_n_n_0_2_164_wf 32#32 x5 x14 hr.temporal b l j

/-- The weekday row. -/
theorem weekday_apply : val_main_v16 (F := Ideal) x6 x15 (ix3 b l j) = Spec.row (by omega) x15 (x6 (ix2 b l)) j :=
  Take.takeOf_apply 6 (by omega) Facts₀.gather_S7x64_S4096x20x1_S4096x20x64_2_0_n_n_0_2_164_wf 7#32 x6 x15 hr.weekday b l j

/-- The hour row. -/
theorem hour_apply : val_main_v18 (F := Ideal) x7 x16 (ix3 b l j) = Spec.row (by omega) x16 (x7 (ix2 b l)) j :=
  Take.takeOf_apply 23 (by omega) Facts₀.gather_S24x64_S4096x20x1_S4096x20x64_2_0_n_n_0_2_164_wf 24#32 x7 x16 hr.hour b l j

/-- The reference's result at `(b, l, j)` is the target. -/
theorem result_apply :
    val_main_v19 (F := Ideal) x0 x1 x2 x3 x5 x6 x7 x8 x9 x10 x11 x12 x13 x14 x15 x16 (ix3 b l j)
      = Spec.target x0 x1 x2 x3 x5 x6 x7 x8 x9 x10 x11 x12 x13 x14 x15 x16 b l j := by
  rw [val_main_v19_apply, val_main_v17_apply, val_main_v15_apply, val_main_v13_apply, val_main_v11_apply, mlp_apply,
    premium_apply x12 hr, sentiment_apply x13 hr, temporal_apply x14 hr, weekday_apply x15 hr, hour_apply x16 hr]
  rfl

end Cert.Proof.RefValue

end
-- ==== Proof.Block.lean ====
/-
  What the kernel's body stores, read at one index: the arithmetic of one block, over any contents of the loaded arrays.
-/
module

public import proofs.«01_k».proof.Proof.Gen.KernelIdeal.Frame
public import proofs.«01_k».proof.Proof.Spec
public import proofs.«01_k».proof.Proof.Words
public import Idealize.ShloMosaic.Lib.Pointwise
public import Idealize.ShloMosaic.Lib.IdealHost

@[expose] public section

set_option maxRecDepth 16384

noncomputable section

namespace Cert.Proof.Block

open Idealize.ShloMosaic Cert.KernelIdeal Cert.KernelIdeal.Gen
open scoped BigOperators

/-- The two spellings of an index of a rank-1 array are one. -/
theorem ix1_eq {n0 : Nat} (a : Fin n0) : ix1 a = ValueIdx.ix1 a :=
  ValueIdx.eq_ix1 _

/-- The two spellings of an index of a rank-2 array are one. -/
theorem ix2_eq {n0 n1 : Nat} (a : Fin n0) (b : Fin n1) : ix2 a b = ValueIdx.ix2 a b :=
  ValueIdx.eq_ix2 _

/-- The two spellings of an index of a rank-3 array are one. -/
theorem ix3_eq {n0 n1 n2 : Nat} (a : Fin n0) (b : Fin n1) (c : Fin n2) : ix3 a b c = ValueIdx.ix3 a b c :=
  ValueIdx.eq_ix3 _

/-- The mark of a table row: a word compared with the row's number, widened and converted, is one at the row the word
    names and zero elsewhere. -/
theorem mark_eq {n : Nat} (hn : n < 2 ^ 32) (a : BitVec 32) (k : Fin n) :
    (FloatOps.sitofp .f32 (BitVec.setWidth 32 (IntOp.cmpi .eq a (BitVec.ofNat 32 k.val))) : Ideal .f32)
      = if k.val = a.toNat then (1 : EReal) else 0 := by
  have hk : (BitVec.ofNat 32 k.val).toNat = k.val := by
    rw [BitVec.toNat_ofNat]; exact Nat.mod_eq_of_lt (by omega)
  have hc : IntOp.cmpi .eq a (BitVec.ofNat 32 k.val) = if k.val = a.toNat then 1#1 else 0#1 := by
    show BitVec.ofBool (a == BitVec.ofNat 32 k.val) = _
    by_cases h : k.val = a.toNat
    · have e : a = BitVec.ofNat 32 k.val := BitVec.eq_of_toNat_eq (by rw [hk, h])
      rw [if_pos h, beq_iff_eq.mpr e]; rfl
    · have e : ¬ a = BitVec.ofNat 32 k.val := fun e => h (by rw [e, hk])
      rw [if_neg h, beq_eq_false_iff_ne.mpr e]; rfl
  rw [hc]
  by_cases h : k.val = a.toNat
  · rw [if_pos h, if_pos h]
    show (((BitVec.setWidth 32 1#1).toInt : ℝ) : EReal) = 1
    have : (BitVec.setWidth 32 1#1).toInt = 1 := by decide
    rw [this]; simp
  · rw [if_neg h, if_neg h]
    show (((BitVec.setWidth 32 0#1).toInt : ℝ) : EReal) = 0
    have : (BitVec.setWidth 32 0#1).toInt = 0 := by decide
    rw [this]; simp

/-- A table's columns against the marks of a word below its number of rows: the entry of the row the word names. -/
theorem pick {n : Nat} (hn : 0 < n) (hn' : n < 2 ^ 32) (tab : FVec Ideal ⟨2, ![n, 64]⟩ .f32) (a w : BitVec 32) (j : Fin 64)
    (e : a = w) (h : w.toNat < n) :
    (∑ k : Fin n, tab (ix2 k j) *
      (FloatOps.sitofp .f32 (BitVec.setWidth 32 (IntOp.cmpi .eq a (BitVec.ofNat 32 k.val))) : Ideal .f32) : EReal)
      = Spec.row hn tab w j := by
  subst e
  rw [← Spec.sum_mark hn tab a j h _ (fun k => mark_eq hn' a k)]
  exact Finset.sum_congr rfl fun k _ => by rw [ix2_eq]

/-- The perceptron of one block before its last bias, at output column `j` and token `b` of the block. -/
theorem pay2_apply (v0 : Vec Ideal S1x4096x768 .f32) (v2 : Vec Ideal S1x4096x128 .f32) (v4 : Vec Ideal S64x768 .f32)
    (v6 : Vec Ideal S64x128 .f32) (v11 : Vec Ideal S64x1 .f32) (v25 : Vec Ideal S64x64 .f32) (j : Fin 64) (b : Fin 4096) :
    k0_pay2 v0 v2 v4 v6 v11 v25 (ix2 j b) = ∑ d : Fin 64, v25 (ix2 d j) * Spec.selu
      ((∑ k : Fin 768, v4 (ix2 d k) * v0 (ix3 0 b k)) + (∑ k : Fin 128, v6 (ix2 d k) * v2 (ix3 0 b k)) + v11 (ix2 d 0)) := by
  unfold k0_pay2
  pointwise
  rfl

/-- The first three tables' rows added, at column `j` and token `b`. -/
theorem pay6_apply (v26 : FVec Ideal S64x4096 .f32) (v27 : Vec Ideal S1x1x4096 .i32) (v39 : Vec Ideal S2x64 .f32)
    (v53 : Vec Ideal S3x64 .f32) (v66 : Vec Ideal S32x64 .f32) (j : Fin 64) (b : Fin 4096) (p s t w h : BitVec 32)
    (hp : p.toNat < 2) (hs : s.toNat < 3) (ht : t.toNat < 32) (hw : w.toNat < 7) (hh : h.toNat < 24)
    (e : v27 (ix3 0 0 b) = Words.pack p s t w h) :
    k0_pay6 v26 (k0_pay3 v27) (k0_pay4 v27) k0_pay5 v39 v53 v66 (ix2 j b)
      = v26 (ix2 j b) + Spec.row (by omega) v39 p j + Spec.row (by omega) v53 s j + Spec.row (by omega) v66 t j := by
  unfold k0_pay6 k0_pay4 k0_pay5 k0_pay3
  pointwise
  rw [e, pick (by omega) (by omega) v39 _ p j (Words.field_premium hp hs ht hw hh) hp,
    pick (by omega) (by omega) v53 _ s j (Words.field_sentiment hp hs ht hw hh) hs,
    pick (by omega) (by omega) v66 _ t j (Words.field_temporal hp hs ht hw hh) ht]

/-- The last two tables' rows added, at column `j` and token `b`. -/
theorem pay1_apply (v27 : Vec Ideal S1x1x4096 .i32) (v68 : FVec Ideal S64x4096 .f32)
    (v79 : Vec Ideal S7x64 .f32) (v92 : Vec Ideal S24x64 .f32) (j : Fin 64) (b : Fin 4096) (p s t w h : BitVec 32)
    (hp : p.toNat < 2) (hs : s.toNat < 3) (ht : t.toNat < 32) (hw : w.toNat < 7) (hh : h.toNat < 24)
    (e : v27 (ix3 0 0 b) = Words.pack p s t w h) :
    k0_pay1 (k0_pay3 v27) v68 (k0_pay7 (k0_pay3 v27)) v79 v92 (ix3 0 j b)
      = v68 (ix2 j b) + Spec.row (by omega) v79 w j + Spec.row (by omega) v92 h j := by
  unfold k0_pay1 k0_pay7 k0_pay3
  pointwise
  rw [e, pick (by omega) (by omega) v79 _ w j (Words.field_weekday hp hs ht hw hh) hw,
    pick (by omega) (by omega) v92 _ h j (Words.field_hour hp hs ht hw hh) hh]

/-- The offsets of a whole load of a rank-2 array. -/
theorem hz2 : (![0, 0] : Fin 2 → Nat) = fun _ => 0 := funext fun a => by fin_cases a <;> rfl
/-- The offsets of a whole load or store of a rank-3 array. -/
theorem hz3 : (![0, 0, 0] : Fin 3 → Nat) = fun _ => 0 := funext fun a => by fin_cases a <;> rfl

/-- The first load of the first layer's weights reads their first 768 columns. -/
theorem ld_left (x3 : Vec Ideal S64x896 .f32) (d : Fin 64) (k : Fin 768) :
    View.ld x3 r0_2 (ix2 d k) = x3 (ix2 d ⟨k.val, by omega⟩) := by
  show x3 (r0_2.emb (ix2 d k)) = _
  refine congrArg x3 (funext fun a => Fin.ext ?_)
  match a with
  | ⟨0, _⟩ => show 0 + 1 * d.val = d.val; omega
  | ⟨1, _⟩ => show 0 + 1 * k.val = k.val; omega

/-- The second load of the first layer's weights reads their last 128 columns. -/
theorem ld_right (x3 : Vec Ideal S64x896 .f32) (d : Fin 64) (k : Fin 128) :
    View.ld x3 r0_3 (ix2 d k) = x3 (ix2 d ⟨768 + k.val, by omega⟩) := by
  show x3 (r0_3.emb (ix2 d k)) = _
  refine congrArg x3 (funext fun a => Fin.ext ?_)
  match a with
  | ⟨0, _⟩ => show 0 + 1 * d.val = d.val; omega
  | ⟨1, _⟩ => show 768 + 1 * k.val = 768 + k.val; omega

/-- One element of the block the body stores, when the packed word of its token holds five indices in range. -/
theorem out_apply (x0 : Vec Ideal S1x4096x768 .f32) (x1 : Vec Ideal S1x4096x128 .f32) (x2 : Vec Ideal S1x1x4096 .i32)
    (x3 : Vec Ideal S64x896 .f32) (x4 : Vec Ideal S64x1 .f32) (x5 : Vec Ideal S64x64 .f32) (x6 : Vec Ideal S2x64 .f32)
    (x7 : Vec Ideal S3x64 .f32) (x8 : Vec Ideal S32x64 .f32) (x9 : Vec Ideal S7x64 .f32) (x10 : Vec Ideal S24x64 .f32)
    (j : Fin 64) (b : Fin 4096) (p s t w h : BitVec 32)
    (hp : p.toNat < 2) (hs : s.toNat < 3) (ht : t.toNat < 32) (hw : w.toNat < 7) (hh : h.toNat < 24)
    (e : x2 (ix3 0 0 b) = Words.pack p s t w h) :
    out0_11 x0 x1 x2 x3 x4 x5 x6 x7 x8 x9 x10 (ix3 0 j b)
      = (∑ d : Fin 64, x5 (ix2 d j) * Spec.selu ((∑ k : Fin 768, x3 (ix2 d ⟨k.val, by omega⟩) * x0 (ix3 0 b k))
          + (∑ k : Fin 128, x3 (ix2 d ⟨768 + k.val, by omega⟩) * x1 (ix3 0 b k)) + x4 (ix2 d 0)))
        + Spec.row (by omega) x6 p j + Spec.row (by omega) x7 s j + Spec.row (by omega) x8 t j
        + Spec.row (by omega) x9 w j + Spec.row (by omega) x10 h j := by
  unfold_out out0_11
  rw [View.canon_unit_zero hz3]
  rw [View.ld_unit_zero (X := x0) hz3, View.ld_unit_zero (X := x1) hz3, View.ld_unit_zero (X := x2) hz3, View.ld_unit_zero (X := x4) hz2,
    View.ld_unit_zero (X := x5) hz2, View.ld_unit_zero (X := x6) hz2, View.ld_unit_zero (X := x7) hz2, View.ld_unit_zero (X := x8) hz2,
    View.ld_unit_zero (X := x9) hz2, View.ld_unit_zero (X := x10) hz2]
  rw [pay1_apply x2 _ x9 x10 j b p s t w h hp hs ht hw hh e, pay6_apply _ x2 x6 x7 x8 j b p s t w h hp hs ht hw hh e,
    pay2_apply]
  have hl : ∀ d : Fin 64, (∑ k : Fin 768, View.ld x3 r0_2 (ix2 d k) * x0 (ix3 0 b k) : EReal)
      = ∑ k : Fin 768, x3 (ix2 d ⟨k.val, by omega⟩) * x0 (ix3 0 b k) :=
    fun d => Finset.sum_congr rfl fun k _ => congrArg (fun z : EReal => z * x0 (ix3 0 b k)) (ld_left x3 d k)
  have hr : ∀ d : Fin 64, (∑ k : Fin 128, View.ld x3 r0_3 (ix2 d k) * x1 (ix3 0 b k) : EReal)
      = ∑ k : Fin 128, x3 (ix2 d ⟨768 + k.val, by omega⟩) * x1 (ix3 0 b k) :=
    fun d => Finset.sum_congr rfl fun k _ => congrArg (fun z : EReal => z * x1 (ix3 0 b k)) (ld_right x3 d k)
  have hs : (∑ d : Fin 64, x5 (ix2 d j) * Spec.selu ((∑ k : Fin 768, View.ld x3 r0_2 (ix2 d k) * x0 (ix3 0 b k))
        + (∑ k : Fin 128, View.ld x3 r0_3 (ix2 d k) * x1 (ix3 0 b k)) + x4 (ix2 d 0)) : EReal)
      = ∑ d : Fin 64, x5 (ix2 d j) * Spec.selu ((∑ k : Fin 768, x3 (ix2 d ⟨k.val, by omega⟩) * x0 (ix3 0 b k))
          + (∑ k : Fin 128, x3 (ix2 d ⟨768 + k.val, by omega⟩) * x1 (ix3 0 b k)) + x4 (ix2 d 0)) :=
    Finset.sum_congr rfl fun d _ => by rw [hl d, hr d]
  rw [← hs]

end Cert.Proof.Block

end
-- ==== Proof.Host.lean ====
/-
  What the host hands the kernel: each array its operations prepare, read at an index of the arguments.
-/
module

public import proofs.«01_k».proof.Proof.Gen.KernelIdeal.Frame
public import proofs.«01_k».proof.Proof.Words
public import Idealize.ShloMosaic.Lib.ValueIdx
public import Idealize.ShloMosaic.Lib.Pointwise

@[expose] public section

set_option maxRecDepth 16384

noncomputable section

namespace Cert.Proof.Host

open Idealize.ShloMosaic Idealize.ShloMosaic.TcCoe Cert.KernelIdeal Cert.KernelIdeal.Gen

variable (m : (ℓ : Loc nD τ sig) → Buf (Elt Ideal) ℓ) (c : Dev nD)

/-- The five index arrays packed into one word per token, as the host's operations do it. -/
def packed (x2 x3 x5 x6 x7 : IVec S4096x20 32) : IVec S4096x20 32 :=
  ori (ori (ori (ori x2 (Host.shli x3 (broadcastInDim S4096x20 ![] bcast_S_S4096x20 (constantI S_ 32 1#32))))
    (Host.shli x5 (broadcastInDim S4096x20 ![] bcast_S_S4096x20 (constantI S_ 32 3#32))))
    (Host.shli x6 (broadcastInDim S4096x20 ![] bcast_S_S4096x20 (constantI S_ 32 8#32))))
    (Host.shli x7 (broadcastInDim S4096x20 ![] bcast_S_S4096x20 (constantI S_ 32 11#32)))

/-- The text embeddings arrive with their first two axes swapped. -/
theorem v0_eq : (V m c main_v0 : FVec Ideal S20x4096x768 .f32)
    = transpose S20x4096x768 [1, 0, 2] (m ((c : Thread nD τ).loc main_arg0) : FVec Ideal S4096x20x768 .f32)
      transposes_S4096x20x768_S20x4096x768_1_0_2 := by
  unfold V V0 hostOps0
  simp only [List.flatten_cons, List.flatten_nil, List.append_nil]
  after_results

/-- The category embeddings arrive with their first two axes swapped. -/
theorem v1_eq : (V m c main_v1 : FVec Ideal S20x4096x128 .f32)
    = transpose S20x4096x128 [1, 0, 2] (m ((c : Thread nD τ).loc main_arg1) : FVec Ideal S4096x20x128 .f32)
      transposes_S4096x20x128_S20x4096x128_1_0_2 := by
  unfold V V0 hostOps0
  simp only [List.flatten_cons, List.flatten_nil, List.append_nil]
  after_results

/-- The packed words arrive transposed, with an axis of size one in the middle. -/
theorem v15_eq : (V m c main_v15 : IVec S20x1x4096 32)
    = shapeCast S20x1x4096 (transpose S20x4096 [1, 0] (packed (m ((c : Thread nD τ).loc main_arg2)) (m ((c : Thread nD τ).loc main_arg3))
        (m ((c : Thread nD τ).loc main_arg5)) (m ((c : Thread nD τ).loc main_arg6)) (m ((c : Thread nD τ).loc main_arg7)))
        transposes_S4096x20_S20x4096_1_0) shapeCasts_S20x4096_S20x1x4096 := by
  unfold V V0 hostOps0 packed
  simp only [List.flatten_cons, List.flatten_nil, List.append_nil]
  after_results
  rfl

/-- The first layer's weights arrive transposed. -/
theorem v19_eq : (V m c main_v19 : FVec Ideal S64x896 .f32)
    = transpose S64x896 [1, 0] (m ((c : Thread nD τ).loc main_arg8) : FVec Ideal S896x64 .f32) transposes_S896x64_S64x896_1_0 := by
  unfold V V0 hostOps0
  simp only [List.flatten_cons, List.flatten_nil, List.append_nil]
  after_results

/-- The first bias arrives as a column. -/
theorem v20_eq : (V m c main_v20 : FVec Ideal S64x1 .f32)
    = shapeCast S64x1 (m ((c : Thread nD τ).loc main_arg9) : FVec Ideal S64 .f32) shapeCasts_S64_S64x1 := by
  unfold V V0 hostOps0
  simp only [List.flatten_cons, List.flatten_nil, List.append_nil]
  after_results
  rfl

/-- The premium table arrives with the second bias added to each of its rows. -/
theorem v18_eq : @Eq (FVec Ideal S2x64 .f32) (V m c main_v18)
    (addf (m ((c : Thread nD τ).loc main_arg12) : FVec Ideal S2x64 .f32) (broadcastInDim S2x64 ![0, 1] bcast_S1x64_S2x64_0_1
        (broadcastInDim S1x64 ![1] bcast_S64_S1x64_1 (m ((c : Thread nD τ).loc main_arg11) : FVec Ideal S64 .f32)))) := by
  unfold V V0 hostOps0
  simp only [List.flatten_cons, List.flatten_nil, List.append_nil]
  after_results

/-- The text embeddings with their first two axes swapped, read at an index. -/
theorem text_apply (x : FVec Ideal S4096x20x768 .f32) (l : Fin 20) (b : Fin 4096) (k : Fin 768) :
    transpose S20x4096x768 [1, 0, 2] x transposes_S4096x20x768_S20x4096x768_1_0_2 (ix3 l b k) = x (ix3 b l k) := by
  pointwise

/-- The category embeddings with their first two axes swapped, read at an index. -/
theorem category_apply (x : FVec Ideal S4096x20x128 .f32) (l : Fin 20) (b : Fin 4096) (k : Fin 128) :
    transpose S20x4096x128 [1, 0, 2] x transposes_S4096x20x128_S20x4096x128_1_0_2 (ix3 l b k) = x (ix3 b l k) := by
  pointwise

/-- The packed word of a token. -/
theorem packed_apply (x2 x3 x5 x6 x7 : IVec S4096x20 32) (l : Fin 20) (b : Fin 4096) :
    shapeCast S20x1x4096 (transpose S20x4096 [1, 0] (packed x2 x3 x5 x6 x7)
        transposes_S4096x20_S20x4096_1_0) shapeCasts_S20x4096_S20x1x4096 (ix3 l 0 b)
      = Words.pack (x2 (ix2 b l)) (x3 (ix2 b l)) (x5 (ix2 b l)) (x6 (ix2 b l)) (x7 (ix2 b l)) := by
  unfold packed
  pointwise
  rfl

/-- The transposed weights, read at an index. -/
theorem weights_apply (x : FVec Ideal S896x64 .f32) (d : Fin 64) (k : Fin 896) :
    transpose S64x896 [1, 0] x transposes_S896x64_S64x896_1_0 (ix2 d k) = x (ix2 k d) := by
  pointwise

/-- The bias column, read at an index. -/
theorem column_apply (x : FVec Ideal S64 .f32) (d : Fin 64) :
    shapeCast S64x1 x shapeCasts_S64_S64x1 (ix2 d 0) = x (ix1 d) := by
  pointwise

/-- The table with a bias on each row, read at an index. -/
theorem biased_apply (x : FVec Ideal S2x64 .f32) (y : FVec Ideal S64 .f32) (k : Fin 2) (j : Fin 64) :
    (addf x (broadcastInDim S2x64 ![0, 1] bcast_S1x64_S2x64_0_1 (broadcastInDim S1x64 ![1] bcast_S64_S1x64_1 y)) (ix2 k j) : EReal)
      = (x (ix2 k j) : EReal) + (y (ix1 j) : EReal) := by
  pointwise

/-- The result with its axes put back, read at an index. -/
theorem back_apply (x : FVec Ideal S20x64x4096 .f32) (b : Fin 4096) (l : Fin 20) (j : Fin 64) :
    transpose S4096x20x64 [2, 0, 1] x transposes_S20x64x4096_S4096x20x64_2_0_1 (ix3 b l j) = x (ix3 l j b) := by
  pointwise

end Cert.Proof.Host

end
-- ==== Proof.KernelValue.lean ====
/-
  What the kernel computes: its first result, read at an index, is the target of `Spec`.
-/
module

public import proofs.«01_k».proof.Proof.Block
public import proofs.«01_k».proof.Proof.Host
public import proofs.«01_k».proof.Proof.Pre
public import Idealize.ShloMosaic.Lib.Pipeline.Value

@[expose] public section

set_option maxRecDepth 16384

noncomputable section

namespace Cert.Proof.KernelValue

open Idealize.ShloMosaic Idealize.ShloMosaic.TcCoe Cert.KernelIdeal Cert.KernelIdeal.Gen
open Idealize.SL.Sem
open Idealize.ShloMosaic.Pipeline (Dat Cfg Window)
open scoped BigOperators

variable (m : (ℓ : Loc nD τ sig) → Buf (Elt Ideal) ℓ) (c : Dev nD)

/-- The sequence position a grid point works on is the point's number. -/
def pos (t : Fin cfg0.N) : Fin 20 := ⟨t.val, by have := t.isLt; have : cfg0.N = 20 := N_0; omega⟩

/-- Window 0's block at a point is the one numbered by the point, along the first axis. -/
theorem idx0 : ∀ t : Fin cfg0.N, win0_0.index t 0 = t.val ∧ win0_0.index t 1 = 0 ∧ win0_0.index t 2 = 0 := by decide +kernel
/-- Window 1's block at a point is the one numbered by the point, along the first axis. -/
theorem idx1 : ∀ t : Fin cfg0.N, win0_1.index t 0 = t.val ∧ win0_1.index t 1 = 0 ∧ win0_1.index t 2 = 0 := by decide +kernel
/-- Window 2's block at a point is the one numbered by the point, along the first axis. -/
theorem idx2 : ∀ t : Fin cfg0.N, win0_2.index t 0 = t.val ∧ win0_2.index t 1 = 0 ∧ win0_2.index t 2 = 0 := by decide +kernel
/-- Window 11's block at a point is the one numbered by the point, along the first axis. -/
theorem idx11 : ∀ t : Fin cfg0.N, win0_11.index t 0 = t.val ∧ win0_11.index t 1 = 0 ∧ win0_11.index t 2 = 0 := by decide +kernel

/-- The block of the text embeddings at a point. -/
theorem iblk0_apply (t : Fin cfg0.N) (b : Fin 4096) (k : Fin 768) :
    iblk m c 0 t (ix3 0 b k) = V m c main_v0 (ix3 (pos t) b k) := by
  show V m c main_v0 ((win0_0.rect t).emb (ix3 0 b k)) = _
  refine congrArg (V m c main_v0) (funext fun a => Fin.ext ?_)
  match a with
  | ⟨0, _⟩ => show win0_0.index t 0 * 1 + 1 * 0 = t.val; rw [(idx0 t).1]; omega
  | ⟨1, _⟩ => show win0_0.index t 1 * 4096 + 1 * b.val = b.val; rw [(idx0 t).2.1]; omega
  | ⟨2, _⟩ => show win0_0.index t 2 * 768 + 1 * k.val = k.val; rw [(idx0 t).2.2]; omega

/-- The block of the category embeddings at a point. -/
theorem iblk1_apply (t : Fin cfg0.N) (b : Fin 4096) (k : Fin 128) :
    iblk m c 1 t (ix3 0 b k) = V m c main_v1 (ix3 (pos t) b k) := by
  show V m c main_v1 ((win0_1.rect t).emb (ix3 0 b k)) = _
  refine congrArg (V m c main_v1) (funext fun a => Fin.ext ?_)
  match a with
  | ⟨0, _⟩ => show win0_1.index t 0 * 1 + 1 * 0 = t.val; rw [(idx1 t).1]; omega
  | ⟨1, _⟩ => show win0_1.index t 1 * 4096 + 1 * b.val = b.val; rw [(idx1 t).2.1]; omega
  | ⟨2, _⟩ => show win0_1.index t 2 * 128 + 1 * k.val = k.val; rw [(idx1 t).2.2]; omega

/-- The block of the packed words at a point. -/
theorem iblk2_apply (t : Fin cfg0.N) (b : Fin 4096) :
    iblk m c 2 t (ix3 0 0 b) = V m c main_v15 (ix3 (pos t) 0 b) := by
  show V m c main_v15 ((win0_2.rect t).emb (ix3 0 0 b)) = _
  refine congrArg (V m c main_v15) (funext fun a => Fin.ext ?_)
  match a with
  | ⟨0, _⟩ => show win0_2.index t 0 * 1 + 1 * 0 = t.val; rw [(idx2 t).1]; omega
  | ⟨1, _⟩ => show win0_2.index t 1 * 1 + 1 * 0 = 0; rw [(idx2 t).2.1]
  | ⟨2, _⟩ => show win0_2.index t 2 * 4096 + 1 * b.val = b.val; rw [(idx2 t).2.2]; omega

/-- Window 3 has one block. -/
theorem idx3 : ∀ t : Fin cfg0.N, win0_3.index t 0 = 0 ∧ win0_3.index t 1 = 0 := by decide +kernel

/-- The block of the first layer's weights is the whole array at every point. -/
theorem iblk3_eq (t : Fin cfg0.N) : (iblk m c 3 t : Vec Ideal S64x896 .f32) = V m c main_v19 := by
  funext y
  show V m c main_v19 ((win0_3.rect t).emb y) = V m c main_v19 y
  refine congrArg (V m c main_v19) (funext fun a => Fin.ext ?_)
  match a with
  | ⟨0, _⟩ => show win0_3.index t 0 * 64 + 1 * (y 0).val = (y 0).val; rw [(idx3 t).1]; omega
  | ⟨1, _⟩ => show win0_3.index t 1 * 896 + 1 * (y 1).val = (y 1).val; rw [(idx3 t).2]; omega

/-- Window 4 has one block. -/
theorem idx4 : ∀ t : Fin cfg0.N, win0_4.index t 0 = 0 ∧ win0_4.index t 1 = 0 := by decide +kernel

/-- The block of the first bias is the whole array at every point. -/
theorem iblk4_eq (t : Fin cfg0.N) : (iblk m c 4 t : Vec Ideal S64x1 .f32) = V m c main_v20 := by
  funext y
  show V m c main_v20 ((win0_4.rect t).emb y) = V m c main_v20 y
  refine congrArg (V m c main_v20) (funext fun a => Fin.ext ?_)
  match a with
  | ⟨0, _⟩ => show win0_4.index t 0 * 64 + 1 * (y 0).val = (y 0).val; rw [(idx4 t).1]; omega
  | ⟨1, _⟩ => show win0_4.index t 1 * 1 + 1 * (y 1).val = (y 1).val; rw [(idx4 t).2]; omega

/-- Window 5 has one block. -/
theorem idx5 : ∀ t : Fin cfg0.N, win0_5.index t 0 = 0 ∧ win0_5.index t 1 = 0 := by decide +kernel

/-- The block of the second layer's weights is the whole array at every point. -/
theorem iblk5_eq (t : Fin cfg0.N) : (iblk m c 5 t : Vec Ideal S64x64 .f32) = V m c main_arg10 := by
  funext y
  show V m c main_arg10 ((win0_5.rect t).emb y) = V m c main_arg10 y
  refine congrArg (V m c main_arg10) (funext fun a => Fin.ext ?_)
  match a with
  | ⟨0, _⟩ => show win0_5.index t 0 * 64 + 1 * (y 0).val = (y 0).val; rw [(idx5 t).1]; omega
  | ⟨1, _⟩ => show win0_5.index t 1 * 64 + 1 * (y 1).val = (y 1).val; rw [(idx5 t).2]; omega

/-- Window 6 has one block. -/
theorem idx6 : ∀ t : Fin cfg0.N, win0_6.index t 0 = 0 ∧ win0_6.index t 1 = 0 := by decide +kernel

/-- The block of the biased premium table is the whole array at every point. -/
theorem iblk6_eq (t : Fin cfg0.N) : (iblk m c 6 t : Vec Ideal S2x64 .f32) = V m c main_v18 := by
  funext y
  show V m c main_v18 ((win0_6.rect t).emb y) = V m c main_v18 y
  refine congrArg (V m c main_v18) (funext fun a => Fin.ext ?_)
  match a with
  | ⟨0, _⟩ => show win0_6.index t 0 * 2 + 1 * (y 0).val = (y 0).val; rw [(idx6 t).1]; omega
  | ⟨1, _⟩ => show win0_6.index t 1 * 64 + 1 * (y 1).val = (y 1).val; rw [(idx6 t).2]; omega

/-- Window 7 has one block. -/
theorem idx7 : ∀ t : Fin cfg0.N, win0_7.index t 0 = 0 ∧ win0_7.index t 1 = 0 := by decide +kernel

/-- The block of the sentiment table is the whole array at every point. -/
theorem iblk7_eq (t : Fin cfg0.N) : (iblk m c 7 t : Vec Ideal S3x64 .f32) = V m c main_arg13 := by
  funext y
  show V m c main_arg13 ((win0_7.rect t).emb y) = V m c main_arg13 y
  refine congrArg (V m c main_arg13) (funext fun a => Fin.ext ?_)
  match a with
  | ⟨0, _⟩ => show win0_7.index t 0 * 3 + 1 * (y 0).val = (y 0).val; rw [(idx7 t).1]; omega
  | ⟨1, _⟩ => show win0_7.index t 1 * 64 + 1 * (y 1).val = (y 1).val; rw [(idx7 t).2]; omega

/-- Window 8 has one block. -/
theorem idx8 : ∀ t : Fin cfg0.N, win0_8.index t 0 = 0 ∧ win0_8.index t 1 = 0 := by decide +kernel

/-- The block of the temporal table is the whole array at every point. -/
theorem iblk8_eq (t : Fin cfg0.N) : (iblk m c 8 t : Vec Ideal S32x64 .f32) = V m c main_arg14 := by
  funext y
  show V m c main_arg14 ((win0_8.rect t).emb y) = V m c main_arg14 y
  refine congrArg (V m c main_arg14) (funext fun a => Fin.ext ?_)
  match a with
  | ⟨0, _⟩ => show win0_8.index t 0 * 32 + 1 * (y 0).val = (y 0).val; rw [(idx8 t).1]; omega
  | ⟨1, _⟩ => show win0_8.index t 1 * 64 + 1 * (y 1).val = (y 1).val; rw [(idx8 t).2]; omega

/-- Window 9 has one block. -/
theorem idx9 : ∀ t : Fin cfg0.N, win0_9.index t 0 = 0 ∧ win0_9.index t 1 = 0 := by decide +kernel

/-- The block of the weekday table is the whole array at every point. -/
theorem iblk9_eq (t : Fin cfg0.N) : (iblk m c 9 t : Vec Ideal S7x64 .f32) = V m c main_arg15 := by
  funext y
  show V m c main_arg15 ((win0_9.rect t).emb y) = V m c main_arg15 y
  refine congrArg (V m c main_arg15) (funext fun a => Fin.ext ?_)
  match a with
  | ⟨0, _⟩ => show win0_9.index t 0 * 7 + 1 * (y 0).val = (y 0).val; rw [(idx9 t).1]; omega
  | ⟨1, _⟩ => show win0_9.index t 1 * 64 + 1 * (y 1).val = (y 1).val; rw [(idx9 t).2]; omega

/-- Window 10 has one block. -/
theorem idx10 : ∀ t : Fin cfg0.N, win0_10.index t 0 = 0 ∧ win0_10.index t 1 = 0 := by decide +kernel

/-- The block of the hour table is the whole array at every point. -/
theorem iblk10_eq (t : Fin cfg0.N) : (iblk m c 10 t : Vec Ideal S24x64 .f32) = V m c main_arg16 := by
  funext y
  show V m c main_arg16 ((win0_10.rect t).emb y) = V m c main_arg16 y
  refine congrArg (V m c main_arg16) (funext fun a => Fin.ext ?_)
  match a with
  | ⟨0, _⟩ => show win0_10.index t 0 * 24 + 1 * (y 0).val = (y 0).val; rw [(idx10 t).1]; omega
  | ⟨1, _⟩ => show win0_10.index t 1 * 64 + 1 * (y 1).val = (y 1).val; rw [(idx10 t).2]; omega

/-- The target at device `c`'s arguments. -/
def tgt (b : Fin 4096) (l : Fin 20) (j : Fin 64) : EReal :=
  Spec.target (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) b l j

/-- Device `c`'s five index arrays name rows of their tables. -/
abbrev Ok : Prop :=
  Pre.InRange (m ((c : Thread nD τ).loc main_arg2)) (m ((c : Thread nD τ).loc main_arg3)) (m ((c : Thread nD τ).loc main_arg5))
    (m ((c : Thread nD τ).loc main_arg6)) (m ((c : Thread nD τ).loc main_arg7))

/-- A row of the premium table with a bias on each row is the row plus the bias. -/
theorem row_biased (x : FVec Ideal S2x64 .f32) (y : FVec Ideal S64 .f32) (w : BitVec 32) (j : Fin 64) :
    Spec.row (n := 2) (by omega) (addf x (broadcastInDim S2x64 ![0, 1] bcast_S1x64_S2x64_0_1 (broadcastInDim S1x64 ![1] bcast_S64_S1x64_1 y))) w j
      = Spec.row (n := 2) (by omega) x w j + y (ix1 j) := by
  unfold Spec.row
  rw [← Block.ix2_eq]
  exact Host.biased_apply x y _ j

/-- The sum the body stores, over arrays in the layout the host prepares, is the target: products commute, and the second
    bias is added with the premium row instead of before it. -/
theorem meets (x0 : FVec Ideal S4096x20x768 .f32) (x1 : FVec Ideal S4096x20x128 .f32) (p s t w h : IVec S4096x20 32)
    (x8 : FVec Ideal S896x64 .f32) (x9 : FVec Ideal S64 .f32) (x10 : FVec Ideal S64x64 .f32) (x11 : FVec Ideal S64 .f32)
    (x12 : FVec Ideal S2x64 .f32) (x13 : FVec Ideal S3x64 .f32) (x14 : FVec Ideal S32x64 .f32) (x15 : FVec Ideal S7x64 .f32)
    (x16 : FVec Ideal S24x64 .f32) (y0 : Vec Ideal S1x4096x768 .f32) (y1 : Vec Ideal S1x4096x128 .f32) (l : Fin 20)
    (h0 : ∀ b k, y0 (ix3 0 b k) = x0 (ix3 b l k)) (h1 : ∀ b k, y1 (ix3 0 b k) = x1 (ix3 b l k)) (b : Fin 4096) (j : Fin 64) :
    (∑ d : Fin 64, x10 (ix2 d j) * Spec.selu (
        (∑ k : Fin 768, transpose S64x896 [1, 0] x8 transposes_S896x64_S64x896_1_0 (ix2 d ⟨k.val, by omega⟩) * y0 (ix3 0 b k))
          + (∑ k : Fin 128, transpose S64x896 [1, 0] x8 transposes_S896x64_S64x896_1_0 (ix2 d ⟨768 + k.val, by omega⟩) * y1 (ix3 0 b k))
          + shapeCast S64x1 x9 shapeCasts_S64_S64x1 (ix2 d 0)) : EReal)
        + Spec.row (n := 2) (by omega) (addf x12 (broadcastInDim S2x64 ![0, 1] bcast_S1x64_S2x64_0_1
            (broadcastInDim S1x64 ![1] bcast_S64_S1x64_1 x11))) (p (ix2 b l)) j
        + Spec.row (n := 3) (by omega) x13 (s (ix2 b l)) j + Spec.row (n := 32) (by omega) x14 (t (ix2 b l)) j
        + Spec.row (n := 7) (by omega) x15 (w (ix2 b l)) j + Spec.row (n := 24) (by omega) x16 (h (ix2 b l)) j
      = Spec.target x0 x1 p s t w h x8 x9 x10 x11 x12 x13 x14 x15 x16 b l j := by
  have hd : ∀ d : Fin 64, ((∑ k : Fin 768, transpose S64x896 [1, 0] x8 transposes_S896x64_S64x896_1_0 (ix2 d ⟨k.val, by omega⟩) * y0 (ix3 0 b k))
          + (∑ k : Fin 128, transpose S64x896 [1, 0] x8 transposes_S896x64_S64x896_1_0 (ix2 d ⟨768 + k.val, by omega⟩) * y1 (ix3 0 b k))
          + shapeCast S64x1 x9 shapeCasts_S64_S64x1 (ix2 d 0) : EReal) = Spec.hidden x0 x1 x8 x9 b l d := by
    intro d
    unfold Spec.hidden
    refine congrArg₂ (· + ·) (congrArg₂ (· + ·) (Finset.sum_congr rfl fun k _ => ?_) (Finset.sum_congr rfl fun k _ => ?_)) ?_
    · rw [Host.weights_apply, h0, mul_comm, Block.ix2_eq, Block.ix3_eq]
    · rw [Host.weights_apply, h1, mul_comm, Block.ix2_eq, Block.ix3_eq]
    · rw [Host.column_apply, Block.ix1_eq]
  have hs : (∑ d : Fin 64, x10 (ix2 d j) * Spec.selu (
        (∑ k : Fin 768, transpose S64x896 [1, 0] x8 transposes_S896x64_S64x896_1_0 (ix2 d ⟨k.val, by omega⟩) * y0 (ix3 0 b k))
          + (∑ k : Fin 128, transpose S64x896 [1, 0] x8 transposes_S896x64_S64x896_1_0 (ix2 d ⟨768 + k.val, by omega⟩) * y1 (ix3 0 b k))
          + shapeCast S64x1 x9 shapeCasts_S64_S64x1 (ix2 d 0)) : EReal)
      = ∑ d : Fin 64, Spec.selu (Spec.hidden x0 x1 x8 x9 b l d) * x10 (ValueIdx.ix2 d j) :=
    Finset.sum_congr rfl fun d _ => by rw [hd d, mul_comm, Block.ix2_eq]
  rw [hs, row_biased]
  unfold Spec.target Spec.mlp
  rw [Block.ix2_eq, Block.ix1_eq, add_comm (Spec.row (n := 2) _ _ _ _) (x11 _), ← add_assoc]

/-- What the body stores at a point, read at an index: the target of the point's position. -/
theorem out_eq (hr : Ok m c) (t : Fin cfg0.N) (j : Fin 64) (b : Fin 4096) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 0 j b) = tgt m c b (pos t) j := by
  have hw : iblk m c 2 t (ix3 0 0 b) = Words.pack (m ((c : Thread nD τ).loc main_arg2) (ix2 b (pos t)))
      (m ((c : Thread nD τ).loc main_arg3) (ix2 b (pos t))) (m ((c : Thread nD τ).loc main_arg5) (ix2 b (pos t)))
      (m ((c : Thread nD τ).loc main_arg6) (ix2 b (pos t))) (m ((c : Thread nD τ).loc main_arg7) (ix2 b (pos t))) :=
    (iblk2_apply m c t b).trans ((congrFun (Host.v15_eq m c) _).trans (Host.packed_apply _ _ _ _ _ (pos t) b))
  rw [Block.out_apply _ _ _ _ _ _ _ _ _ _ _ j b _ _ _ _ _ (hr.premium _) (hr.sentiment _) (hr.temporal _) (hr.weekday _)
    (hr.hour _) hw]
  rw [iblk3_eq, iblk4_eq, iblk5_eq, iblk6_eq, iblk7_eq, iblk8_eq, iblk9_eq, iblk10_eq, V_main_arg10, V_main_arg13,
    V_main_arg14, V_main_arg15, V_main_arg16, Host.v18_eq, Host.v19_eq, Host.v20_eq]
  exact meets _ _ _ _ _ _ _ _ _ _ _ _ _ _ _ _ _ _ (pos t)
    (fun b k => (iblk0_apply m c t b k).trans ((congrFun (Host.v0_eq m c) _).trans (Host.text_apply _ (pos t) b k)))
    (fun b k => (iblk1_apply m c t b k).trans ((congrFun (Host.v1_eq m c) _).trans (Host.category_apply _ (pos t) b k))) b j

/-- The region's result array, in the kernel's layout. -/
def whole : FVec Ideal S20x64x4096 .f32 := fun i => tgt m c (i 2) (i 0) (i 1)

/-- What point `t` writes back is block `t` of that array. -/
theorem flushed_eq (hr : Ok m c) (t : Fin cfg0.N) :
    (dats m 0 c).flushed 11 t = (win0_11.blk t).view.read (Elt Ideal) (whole m c) := by
  show (cfg0.win 11).cut (grid0.coords t) ((dats m 0 c).after 11 t) = _
  rw [after0_11]
  funext y
  have h0 : (y 0).val = 0 := by have : (y 0).val < 1 := (y 0).isLt; omega
  have hy : (cfg0.win 11).xinj (grid0.coords t) y = ix3 0 (y 1) (y 2) := funext fun a => Fin.ext (by
    match a with
    | ⟨0, _⟩ => exact h0
    | ⟨1, _⟩ => rfl
    | ⟨2, _⟩ => rfl)
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) ((cfg0.win 11).xinj (grid0.coords t) y)
    = whole m c ((win0_11.rect t).emb y)
  rw [hy]
  refine (out_eq m c hr t (y 1) (y 2)).trans ?_
  have e0 : (win0_11.rect t).emb y 0 = pos t := Fin.ext (by
    show win0_11.index t 0 * 1 + 1 * (y 0).val = t.val; rw [(idx11 t).1, h0]; omega)
  have e1 : (win0_11.rect t).emb y 1 = y 1 := Fin.ext (by
    show win0_11.index t 1 * 64 + 1 * (y 1).val = (y 1).val; rw [(idx11 t).2.1]; omega)
  have e2 : (win0_11.rect t).emb y 2 = y 2 := Fin.ext (by
    show win0_11.index t 2 * 4096 + 1 * (y 2).val = (y 2).val; rw [(idx11 t).2.2]; omega)
  unfold whole
  rw [e0, e1, e2]

/-- An index is in point `t`'s block when its first coordinate is the point's number. -/
theorem mem_blk (t : Fin cfg0.N) (i : S20x64x4096.Idx) (h : (i 0).val = t.val) :
    i ∈ ((cfg0.win 11).blk t).view.set := by
  show i ∈ ((View.whole main_v21).slice (win0_11.rect t)).set
  rw [View.set_slice_whole, Rect.mem_set_unit]
  have h1 : (i 1).val < 64 := (i 1).isLt
  have h2 : (i 2).val < 4096 := (i 2).isLt
  intro a
  match a with
  | ⟨0, _⟩ => show win0_11.index t 0 * 1 ≤ (i 0).val ∧ (i 0).val < win0_11.index t 0 * 1 + 1; rw [(idx11 t).1]; omega
  | ⟨1, _⟩ => show win0_11.index t 1 * 64 ≤ (i 1).val ∧ (i 1).val < win0_11.index t 1 * 64 + 64; rw [(idx11 t).2.1]; omega
  | ⟨2, _⟩ => show win0_11.index t 2 * 4096 ≤ (i 2).val ∧ (i 2).val < win0_11.index t 2 * 4096 + 4096; rw [(idx11 t).2.2]; omega

/-- The blocks tile the array. -/
theorem cover (i : S20x64x4096.Idx) : ∃ t : Fin cfg0.N, (cfg0.win 11).flush t = true ∧ i ∈ ((cfg0.win 11).blk t).view.set := by
  have h0 : (i 0).val < 20 := (i 0).isLt
  have hN : cfg0.N = 20 := N_0
  exact ⟨⟨(i 0).val, by omega⟩, flush0_11 _, mem_blk _ i rfl⟩

/-- So the region's result array ends holding it. -/
theorem final (hr : Ok m c) : (dats m 0 c).arrAt 11 cfg0.N = whole m c :=
  (dats m 0 c).arrAt_eq_of_cover 11 (whole m c) (fun t _ => flushed_eq m c hr t) cover

/-- The first result as the run leaves it: the target at each index. -/
def result : FVec Ideal S4096x20x64 .f32 := fun i => tgt m c (i 0) (i 1) (i 2)

/-- The windows' arrays are distinct. -/
theorem arrInj : Function.Injective (Pipeline.arrRef (cfgs 0).spec) := by decide

/-- The operation after the region puts the axes back. -/
theorem tail_eq (hr : Ok m c) :
    Pipeline.afterTail₀ cfgs (dats m) 0 (V0 m) [hostOps1] c main_v22 = result m c := by
  unfold Pipeline.afterTail₀ hostOps1
  simp only [List.flatten_cons, List.flatten_nil, List.append_nil]
  after_results
  have e : Pipeline.withArrays (cfgs 0).spec c (V0 m c) (fun w => (dats m 0 c).arrAt w (cfgs 0).N) (Proc.tc.devRef main_v21)
      = whole m c :=
    (Pipeline.withArrays_arr (cfgs 0).spec arrInj c (V0 m c) (fun w => (dats m 0 c).arrAt w (cfgs 0).N) 11).trans (final m c hr)
  refine (congrArg (fun x : FVec Ideal S20x64x4096 .f32 => transpose S4096x20x64 [2, 0, 1] x transposes_S20x64x4096_S4096x20x64_2_0_1) e).trans ?_
  funext i
  rw [ValueIdx.eq_ix3 i, ← Block.ix3_eq]
  exact Host.back_apply (whole m c) (i 0) (i 1) (i 2)

variable (ρ : Dev nD → PrngReg)

/-- The kernel's run leaves the target in its first result. -/
theorem run (hr : ∀ c, Ok m c) : θ_run defs (onTc (τ := τ) (main (F := Ideal))) ⟨m, fun _ => 0, ρ⟩ fun r => ∀ c : Dev nD,
      r.2.mem ((c : Thread nD τ).loc main_v22) = result m c :=
  (θ_run defs _ _).mono (fun _ h c =>
      ((h c).2 main_v22 (Pipeline.mem_restRefs_of main_v22 (by decide) (by decide))).trans (tail_eq m c (hr c)))
    (run_main m ρ)

end Cert.Proof.KernelValue

end
-- ==== Proof.lean ====
/-
  The proof of `Cert.Claim`: the frames of the kernel and of the reference, and the equality of their results as extended
  reals where every index is within its table.

  The mathematics is in the modules under Proof/: `Spec` states what one element of the result is; `Words` reads the
  packed word; `Pre` reads the precondition; `Take` and `RefValue` read the reference; `Block`, `Host` and
  `KernelValue` read the kernel. This file puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pre
public import proofs.«01_k».proof.Proof.RefValue
public import proofs.«01_k».proof.Proof.KernelValue
public import Idealize.ShloMosaic.Adequacy
public import Idealize.ShloMosaic.Init

@[expose] public section

noncomputable section

namespace Cert.Proof

open Idealize.ShloMosaic Idealize.SL.Sem

/-- The kernel terminates, leaves its arguments unchanged and every semaphore counter at zero, at the bit-exact floats. -/
theorem frame_kernel : Cert.quiescent_Kernel := fun m ρ _ => Cert.Kernel.Gen.frame m ρ

/-- The same of the kernel at the ideal floats. -/
theorem frame_kernelIdeal : Cert.quiescent_KernelIdeal := fun m ρ _ => Cert.KernelIdeal.Gen.frame m ρ

/-- The reference terminates, leaves its arguments unchanged and, having no semaphore, every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference's first result is the one the kernel leaves, when the arguments agree and the indices are in range. -/
theorem reference_result (m : (ℓ : Loc Cert.KernelIdeal.nD Cert.KernelIdeal.τ Cert.KernelIdeal.sig) → Buf (Elt Ideal) ℓ)
    (c : Dev Cert.KernelIdeal.nD) (hr : KernelValue.Ok m c) :
    Cert.ReferenceIdeal.Read.val_main_v19 (F := Ideal) (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)) (m ((c.tc : Thread _ _).loc Cert.KernelIdeal.main_arg5))
      (m ((c.tc : Thread _ _).loc Cert.KernelIdeal.main_arg6)) (m ((c.tc : Thread _ _).loc Cert.KernelIdeal.main_arg7))
      (m ((c.tc : Thread _ _).loc Cert.KernelIdeal.main_arg8)) (m ((c.tc : Thread _ _).loc Cert.KernelIdeal.main_arg9))
      (m ((c.tc : Thread _ _).loc Cert.KernelIdeal.main_arg10)) (m ((c.tc : Thread _ _).loc Cert.KernelIdeal.main_arg11))
      (m ((c.tc : Thread _ _).loc Cert.KernelIdeal.main_arg12)) (m ((c.tc : Thread _ _).loc Cert.KernelIdeal.main_arg13))
      (m ((c.tc : Thread _ _).loc Cert.KernelIdeal.main_arg14)) (m ((c.tc : Thread _ _).loc Cert.KernelIdeal.main_arg15))
      (m ((c.tc : Thread _ _).loc Cert.KernelIdeal.main_arg16)) = KernelValue.result m c := by
  funext i
  rw [ValueIdx.eq_ix3 i]
  exact RefValue.result_apply _ _ _ _ _ _ _ _ _ _ _ hr (i 0) (i 1) (i 2)

/-- From arguments that agree, with every index within its table, the kernel and the reference leave equal results: the
    first the target of `Spec`, the second the mask as given. -/
theorem algebraic :
    Cert.algebraic_KernelIdeal_ReferenceIdeal_pre_indices_in_range (hPre_indices_in_range := Pre.facts) := by
  intro m g m' g' hpre hargs
  have hr : ∀ c, KernelValue.Ok m c := fun c =>
    haveI := Pre.facts; Pre.inRange _ _ _ _ _ _ _ _ _ _ _ _ _ _ _ _ _ (hpre c)
  refine ⟨fun c => KernelValue.result m c, fun c => m ((c.tc : Thread _ _).loc Cert.KernelIdeal.main_arg4), ?_, ?_⟩
  · exact (θ_run Cert.KernelIdeal.defs _ _).mono (fun _ h c => ⟨h.1 c, (h.2 c).2.2.2.2.1, h.2 c⟩)
      (θ_run_and (KernelValue.run m g hr) (Cert.KernelIdeal.Gen.unchanged m g))
  · refine (θ_run Cert.ReferenceIdeal.defs _ _).mono (fun _ h c => ⟨(h c).1.trans ?_, (h c).2.1.trans ?_, (h c).2.2⟩)
      (Cert.ReferenceIdeal.Value.run (F := Ideal) m' g')
    · obtain ⟨a0, a1, a2, a3, a4, a5, a6, a7, a8, a9, a10, a11, a12, a13, a14, a15, a16⟩ := hargs c
      rw [Cert.ReferenceIdeal.Read.val_main_v19_eq, a0, a1, a2, a3, a5, a6, a7, a8, a9, a10, a11, a12, a13, a14, a15, a16]
      exact reference_result m c (hr c)
    · exact (hargs c).2.2.2.2.1

/-- The whole claim. -/
theorem claim : Cert.Claim :=
  ⟨Cert.Kernel.Gen.facts, Cert.KernelIdeal.Gen.facts, Cert.ReferenceIdeal.Gen.facts, Pre.facts,
    frame_kernel, frame_kernelIdeal, fun m ρ _ => frame_kernelIdeal m ρ trivial, frame_reference,
    fun m ρ _ => frame_reference m ρ trivial, trivial, algebraic⟩

end Cert.Proof

end
